-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)) (v6 : (c : Dev Cert.KernelIdeal.nD) → Buf (Elt Ideal) ((c.tc : Thread Cert.KernelIdeal.nD Cert.KernelIdeal.τ).loc Cert.KernelIdeal.main_v12_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_v12_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x51x1024 : Shape := ⟨3, ![6, 51, 1024]⟩
abbrev S1x1024 : Shape := ⟨2, ![1, 1024]⟩
abbrev S1x2x1024x4096 : Shape := ⟨4, ![1, 2, 1024, 4096]⟩
abbrev S1x2x4096 : Shape := ⟨3, ![1, 2, 4096]⟩
abbrev S1x4096x1024 : Shape := ⟨3, ![1, 4096, 1024]⟩
abbrev S6x51x2048 : Shape := ⟨3, ![6, 51, 2048]⟩
abbrev S1x2048x1024 : Shape := ⟨3, ![1, 2048, 1024]⟩
abbrev S306x1024 : Shape := ⟨2, ![306, 1024]⟩
abbrev S_ : Shape := ⟨0, ![]⟩
abbrev S328x1024 : Shape := ⟨2, ![328, 1024]⟩
abbrev S328x8x128 : Shape := ⟨3, ![328, 8, 128]⟩
abbrev S8x328x128 : Shape := ⟨3, ![8, 328, 128]⟩
abbrev S2x1024x4096 : Shape := ⟨3, ![2, 1024, 4096]⟩
abbrev S2x4096 : Shape := ⟨2, ![2, 4096]⟩
abbrev S4096x1024 : Shape := ⟨2, ![4096, 1024]⟩
abbrev S306x2048 : Shape := ⟨2, ![306, 2048]⟩
abbrev S328x2048 : Shape := ⟨2, ![328, 2048]⟩
abbrev S328x16x128 : Shape := ⟨3, ![328, 16, 128]⟩
abbrev S16x328x128 : Shape := ⟨3, ![16, 328, 128]⟩
abbrev S2048x1024 : Shape := ⟨2, ![2048, 1024]⟩
abbrev S6x51 : Shape := ⟨2, ![6, 51]⟩
abbrev S6x51x4096 : Shape := ⟨3, ![6, 51, 4096]⟩
abbrev S8x320x128 : Shape := ⟨3, ![8, 320, 128]⟩
abbrev S328x128 : Shape := ⟨2, ![328, 128]⟩
abbrev S32x320x128 : Shape := ⟨3, ![32, 320, 128]⟩
abbrev S320x128 : Shape := ⟨2, ![320, 128]⟩
abbrev S16x320x128 : Shape := ⟨3, ![16, 320, 128]⟩
abbrev S6 : Shape := ⟨1, ![6]⟩
abbrev S3 : Shape := ⟨1, ![3]⟩
abbrev S7 : Shape := ⟨1, ![7]⟩
abbrev S1 : Shape := ⟨1, ![1]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x320x128 : Shape := ⟨3, ![1, 320, 128]⟩
abbrev S320x2048 : Shape := ⟨2, ![320, 2048]⟩
abbrev S2048x512 : Shape := ⟨2, ![2048, 512]⟩
abbrev S320x512 : Shape := ⟨2, ![320, 512]⟩
abbrev S1x512 : Shape := ⟨2, ![1, 512]⟩
abbrev S1x128 : Shape := ⟨2, ![1, 128]⟩
abbrev S51x128 : Shape := ⟨2, ![51, 128]⟩
abbrev S1x51x128 : Shape := ⟨3, ![1, 51, 128]⟩
abbrev S56x128 : Shape := ⟨2, ![56, 128]⟩
abbrev S128 : Shape := ⟨1, ![128]⟩
abbrev S1x51 : Shape := ⟨2, ![1, 51]⟩
abbrev S320x1024 : Shape := ⟨2, ![320, 1024]⟩
abbrev S1x1024x256 : Shape := ⟨3, ![1, 1024, 256]⟩
abbrev S1024x256 : Shape := ⟨2, ![1024, 256]⟩
abbrev S320x256 : Shape := ⟨2, ![320, 256]⟩
abbrev S1x256 : Shape := ⟨2, ![1, 256]⟩
abbrev S320x4096 : Shape := ⟨2, ![320, 4096]⟩
abbrev S4096x512 : Shape := ⟨2, ![4096, 512]⟩

abbrev nBuf : Space → Nat
  | .hbm => 32
  | .vmem => 24
  | .smem => 0
  | _ => 0

abbrev bufTy : (tb : Table) → Fin (tcTables nBuf tb) → BufTy
  | .hbm, ⟨0, _⟩ => ⟨S6x51x1024, .f32⟩
  | .hbm, ⟨1, _⟩ => ⟨S1x1024, .f32⟩
  | .hbm, ⟨2, _⟩ => ⟨S1x2x1024x4096, .fp8e4m3⟩
  | .hbm, ⟨3, _⟩ => ⟨S1x2x4096, .f32⟩
  | .hbm, ⟨4, _⟩ => ⟨S1x4096x1024, .fp8e4m3⟩
  | .hbm, ⟨5, _⟩ => ⟨S1x1024, .f32⟩
  | .hbm, ⟨6, _⟩ => ⟨S6x51x2048, .f32⟩
  | .hbm, ⟨7, _⟩ => ⟨S1x2048x1024, .fp8e4m3⟩
  | .hbm, ⟨8, _⟩ => ⟨S1x1024, .f32⟩
  | .hbm, ⟨9, _⟩ => ⟨S306x1024, .f32⟩
  | .hbm, ⟨10, _⟩ => ⟨S_, .i32⟩
  | .hbm, ⟨11, _⟩ => ⟨S_, .f32⟩
  | .hbm, ⟨12, _⟩ => ⟨S328x1024, .f32⟩
  | .hbm, ⟨13, _⟩ => ⟨S328x8x128, .f32⟩
  | .hbm, ⟨14, _⟩ => ⟨S8x328x128, .f32⟩
  | .hbm, ⟨15, _⟩ => ⟨S2x1024x4096, .fp8e4m3⟩
  | .hbm, ⟨16, _⟩ => ⟨S2x4096, .f32⟩
  | .hbm, ⟨17, _⟩ => ⟨S4096x1024, .fp8e4m3⟩
  | .hbm, ⟨18, _⟩ => ⟨S306x2048, .f32⟩
  | .hbm, ⟨19, _⟩ => ⟨S_, .i32⟩
  | .hbm, ⟨20, _⟩ => ⟨S_, .f32⟩
  | .hbm, ⟨21, _⟩ => ⟨S328x2048, .f32⟩
  | .hbm, ⟨22, _⟩ => ⟨S328x16x128, .f32⟩
  | .hbm, ⟨23, _⟩ => ⟨S16x328x128, .f32⟩
  | .hbm, ⟨24, _⟩ => ⟨S2048x1024, .fp8e4m3⟩
  | .hbm, ⟨25, _⟩ => ⟨S6x51x1024, .f32⟩
  | .hbm, ⟨26, _⟩ => ⟨S6x51x1024, .fp8e4m3⟩
  | .hbm, ⟨27, _⟩ => ⟨S6x51, .f32⟩
  | .hbm, ⟨28, _⟩ => ⟨S6x51x4096, .fp8e4m3⟩
  | .hbm, ⟨29, _⟩ => ⟨S6x51, .f32⟩
  | .hbm, ⟨30, _⟩ => ⟨S6x51x2048, .fp8e4m3⟩
  | .hbm, ⟨31, _⟩ => ⟨S6x51, .f32⟩
  | .local _ .vmem, ⟨0, _⟩ => ⟨S1x1024, .f32⟩
  | .local _ .vmem, ⟨1, _⟩ => ⟨S2x1024x4096, .fp8e4m3⟩
  | .local _ .vmem, ⟨2, _⟩ => ⟨S2x4096, .f32⟩
  | .local _ .vmem, ⟨3, _⟩ => ⟨S4096x1024, .fp8e4m3⟩
  | .local _ .vmem, ⟨4, _⟩ => ⟨S1x1024, .f32⟩
  | .local _ .vmem, ⟨5, _⟩ => ⟨S8x328x128, .f32⟩
  | .local _ .vmem, ⟨6, _⟩ => ⟨S8x320x128, .fp8e4m3⟩
  | .local _ .vmem, ⟨7, _⟩ => ⟨S328x128, .f32⟩
  | .local _ .vmem, ⟨8, _⟩ => ⟨S32x320x128, .f32⟩
  | .local _ .vmem, ⟨9, _⟩ => ⟨S320x128, .f32⟩
  | .local _ .vmem, ⟨10, _⟩ => ⟨S32x320x128, .fp8e4m3⟩
  | .local _ .vmem, ⟨11, _⟩ => ⟨S328x128, .f32⟩
  | .local _ .vmem, ⟨12, _⟩ => ⟨S6x51x1024, .f32⟩
  | .local _ .vmem, ⟨13, _⟩ => ⟨S6x51x1024, .fp8e4m3⟩
  | .local _ .vmem, ⟨14, _⟩ => ⟨S6x51x4096, .fp8e4m3⟩
  | .local _ .vmem, ⟨15, _⟩ => ⟨S6x51, .f32⟩
  | .local _ .vmem, ⟨16, _⟩ => ⟨S6x51, .f32⟩
  | .local _ .vmem, ⟨17, _⟩ => ⟨S16x328x128, .f32⟩
  | .local _ .vmem, ⟨18, _⟩ => ⟨S2048x1024, .fp8e4m3⟩
  | .local _ .vmem, ⟨19, _⟩ => ⟨S1x1024, .f32⟩
  | .local _ .vmem, ⟨20, _⟩ => ⟨S16x320x128, .fp8e4m3⟩
  | .local _ .vmem, ⟨21, _⟩ => ⟨S328x128, .f32⟩
  | .local _ .vmem, ⟨22, _⟩ => ⟨S6x51x2048, .fp8e4m3⟩
  | .local _ .vmem, ⟨23, _⟩ => ⟨S6x51, .f32⟩
  | _, _ => ⟨S6x51x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩

abbrev nD : Nat := 1
abbrev τ : Topo := Topo.v7x

variable {F : FTy → Type} [FloatOps F]

abbrev grid0 : Pipeline.Grid := .none
-- ==== ReferenceIdeal.lean ====
abbrev S6x51x1024 : Shape := ⟨3, ![6, 51, 1024]⟩
abbrev S1x1024 : Shape := ⟨2, ![1, 1024]⟩
abbrev S1x2x1024x4096 : Shape := ⟨4, ![1, 2, 1024, 4096]⟩
abbrev S1x2x4096 : Shape := ⟨3, ![1, 2, 4096]⟩
abbrev S1x4096x1024 : Shape := ⟨3, ![1, 4096, 1024]⟩
abbrev S6x51x2048 : Shape := ⟨3, ![6, 51, 2048]⟩
abbrev S1x2048x1024 : Shape := ⟨3, ![1, 2048, 1024]⟩
abbrev S6x51 : Shape := ⟨2, ![6, 51]⟩
abbrev S6x51x4096 : Shape := ⟨3, ![6, 51, 4096]⟩
abbrev S6x51x1 : Shape := ⟨3, ![6, 51, 1]⟩
abbrev S2048x1024 : Shape := ⟨2, ![2048, 1024]⟩
abbrev S306x2048 : Shape := ⟨2, ![306, 2048]⟩
abbrev S306x1024 : Shape := ⟨2, ![306, 1024]⟩
abbrev S1024 : Shape := ⟨1, ![1024]⟩
abbrev S1x1x1024 : Shape := ⟨3, ![1, 1, 1024]⟩
abbrev S1x1x1024x4096 : Shape := ⟨4, ![1, 1, 1024, 4096]⟩
abbrev S1024x4096 : Shape := ⟨2, ![1024, 4096]⟩
abbrev S306x4096 : Shape := ⟨2, ![306, 4096]⟩
abbrev S1x1x4096 : Shape := ⟨3, ![1, 1, 4096]⟩
abbrev S4096 : Shape := ⟨1, ![4096]⟩
abbrev S4096x1024 : Shape := ⟨2, ![4096, 1024]⟩

abbrev nBuf : Space → Nat
  | .hbm => 16
  | .vmem => 16
  | .smem => 0
  | _ => 0

abbrev bufTy : (tb : Table) → Fin (tcTables nBuf tb) → BufTy
  | .hbm, ⟨0, _⟩ => ⟨S6x51x1024, .f32⟩
  | .hbm, ⟨1, _⟩ => ⟨S1x1024, .f32⟩
  | .hbm, ⟨2, _⟩ => ⟨S1x2x1024x4096, .fp8e4m3⟩
  | .hbm, ⟨3, _⟩ => ⟨S1x2x4096, .f32⟩
  | .hbm, ⟨4, _⟩ => ⟨S1x4096x1024, .fp8e4m3⟩
  | .hbm, ⟨5, _⟩ => ⟨S1x1024, .f32⟩
  | .hbm, ⟨6, _⟩ => ⟨S6x51x2048, .f32⟩
  | .hbm, ⟨7, _⟩ => ⟨S1x2048x1024, .fp8e4m3⟩
  | .hbm, ⟨8, _⟩ => ⟨S1x1024, .f32⟩
  | .hbm, ⟨9, _⟩ => ⟨S6x51x1024, .f32⟩
  | .hbm, ⟨10, _⟩ => ⟨S6x51x1024, .fp8e4m3⟩
  | .hbm, ⟨11, _⟩ => ⟨S6x51, .f32⟩
  | .hbm, ⟨12, _⟩ => ⟨S6x51x4096, .fp8e4m3⟩
  | .hbm, ⟨13, _⟩ => ⟨S6x51, .f32⟩
  | .hbm, ⟨14, _⟩ => ⟨S6x51x2048, .fp8e4m3⟩
  | .hbm, ⟨15, _⟩ => ⟨S6x51, .f32⟩
  | .local _ .vmem, ⟨0, _⟩ => ⟨S6x51x1024, .f32⟩
  | .local _ .vmem, ⟨1, _⟩ => ⟨S1x1024, .f32⟩
  | .local _ .vmem, ⟨2, _⟩ => ⟨S1x2x1024x4096, .fp8e4m3⟩
  | .local _ .vmem, ⟨3, _⟩ => ⟨S1x2x4096, .f32⟩
  | .local _ .vmem, ⟨4, _⟩ => ⟨S1x4096x1024, .fp8e4m3⟩
  | .local _ .vmem, ⟨5, _⟩ => ⟨S1x1024, .f32⟩
  | .local _ .vmem, ⟨6, _⟩ => ⟨S6x51x2048, .f32⟩
  | .local _ .vmem, ⟨7, _⟩ => ⟨S1x2048x1024, .fp8e4m3⟩
  | .local _ .vmem, ⟨8, _⟩ => ⟨S1x1024, .f32⟩
  | .local _ .vmem, ⟨9, _⟩ => ⟨S6x51x1024, .f32⟩
  | .local _ .vmem, ⟨10, _⟩ => ⟨S6x51x1024, .fp8e4m3⟩
  | .local _ .vmem, ⟨11, _⟩ => ⟨S6x51, .f32⟩
  | .local _ .vmem, ⟨12, _⟩ => ⟨S6x51x4096, .fp8e4m3⟩
  | .local _ .vmem, ⟨13, _⟩ => ⟨S6x51, .f32⟩
  | .local _ .vmem, ⟨14, _⟩ => ⟨S6x51x2048, .fp8e4m3⟩
  | .local _ .vmem, ⟨15, _⟩ => ⟨S6x51, .f32⟩
  | _, _ => ⟨S6x51x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S6x51x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2x1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x51x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x51x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x51x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x51 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x51x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x51 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x51x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x51 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KernelRun.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

/-!
# The body of the kernel, run once

The kernel's one call has no grid and no windows: its body starts nine copies into scratch, computes, and copies seven
arrays out. Here that body is run on whole buffers at arbitrary contents. The run leaves the nine inputs as they were,
the scratch at some contents, every transfer cell back at zero, and the seven results at the contents the run finds.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of the buffer behind a memref, on core `c`. -/
abbrev Bf (c : Dev nD) {sp : Space} {S : Shape} {e : EltTy} (M : Memref sig .tc sp S e) : Type := Buf (Elt F) (M.view.loc (c : Thread nD τ))
/-- The buffer behind a memref, owned whole at contents `f`. -/
abbrev pt (c : Dev nD) {sp : Space} {S : Shape} {e : EltTy} (M : Memref sig .tc sp S e) (f : Bf (F := F) c M) : sProp 𝕄 :=
  M.view.loc (c : Thread nD τ) ↦{fullShare} f

/-- On whole buffers at any contents, the cells at zero and the core's `owes`, the body runs to a continuation holding
    the nine inputs as they were, the scratch at some contents, the cells at zero, the seven results at the contents named
    by the first component, and the waits recorded. -/
noncomputable def kernelRun (c : Dev nD)
    (f0 : Bf (F := F) c (Memref.whole main_v3)) (f1 : Bf (F := F) c (Memref.whole main_arg1))
    (f2 : Bf (F := F) c (Memref.whole main_v4)) (f3 : Bf (F := F) c (Memref.whole main_v5))
    (f4 : Bf (F := F) c (Memref.whole main_v6)) (f5 : Bf (F := F) c (Memref.whole main_arg5))
    (f6 : Bf (F := F) c (Memref.whole main_v10)) (f7 : Bf (F := F) c (Memref.whole main_v11))
    (f8 : Bf (F := F) c (Memref.whole main_arg8))
    (s0 : Bf (F := F) c (Memref.whole cc0_scratch0)) (s1 : Bf (F := F) c (Memref.whole cc0_scratch1))
    (s2 : Bf (F := F) c (Memref.whole cc0_scratch2)) (s3 : Bf (F := F) c (Memref.whole cc0_scratch3))
    (s4 : Bf (F := F) c (Memref.whole cc0_scratch4)) (s5 : Bf (F := F) c (Memref.whole cc0_scratch5))
    (s6 : Bf (F := F) c (Memref.whole cc0_scratch6)) (s7 : Bf (F := F) c (Memref.whole cc0_scratch7))
    (s8 : Bf (F := F) c (Memref.whole cc0_scratch8)) (s9 : Bf (F := F) c (Memref.whole cc0_scratch9))
    (s10 : Bf (F := F) c (Memref.whole cc0_scratch10)) (s11 : Bf (F := F) c (Memref.whole cc0_scratch11))
    (s12 : Bf (F := F) c (Memref.whole cc0_scratch12)) (s13 : Bf (F := F) c (Memref.whole cc0_scratch13))
    (s14 : Bf (F := F) c (Memref.whole cc0_scratch14)) (s15 : Bf (F := F) c (Memref.whole cc0_scratch15))
    (s16 : Bf (F := F) c (Memref.whole cc0_scratch16)) (s17 : Bf (F := F) c (Memref.whole cc0_scratch17))
    (s18 : Bf (F := F) c (Memref.whole cc0_scratch18)) (s19 : Bf (F := F) c (Memref.whole cc0_scratch19))
    (s20 : Bf (F := F) c (Memref.whole cc0_scratch20)) (s21 : Bf (F := F) c (Memref.whole cc0_scratch21))
    (s22 : Bf (F := F) c (Memref.whole cc0_scratch22)) (s23 : Bf (F := F) c (Memref.whole cc0_scratch23))
    (o0 : Bf (F := F) c (Memref.whole main_v12_0)) (o1 : Bf (F := F) c (Memref.whole main_v12_1))
    (o2 : Bf (F := F) c (Memref.whole main_v12_2)) (o3 : Bf (F := F) c (Memref.whole main_v12_3))
    (o4 : Bf (F := F) c (Memref.whole main_v12_4)) (o5 : Bf (F := F) c (Memref.whole main_v12_5))
    (o6 : Bf (F := F) c (Memref.whole main_v12_6)) :
    { G : Bf (F := F) c (Memref.whole main_v12_0) × Bf (F := F) c (Memref.whole main_v12_1) × Bf (F := F) c (Memref.whole main_v12_2) × Bf (F := F) c (Memref.whole main_v12_3) × Bf (F := F) c (Memref.whole main_v12_4) × Bf (F := F) c (Memref.whole main_v12_5) × Bf (F := F) c (Memref.whole main_v12_6) //
      ∀ (W : Waits sig Unit) (K : PUnit → sProp 𝕄),
        iprop(pt c (Memref.whole cc0_scratch0) s0 ∗ pt c (Memref.whole cc0_scratch1) s1
            ∗ pt c (Memref.whole cc0_scratch2) s2 ∗ pt c (Memref.whole cc0_scratch3) s3
            ∗ pt c (Memref.whole cc0_scratch4) s4 ∗ pt c (Memref.whole cc0_scratch5) s5
            ∗ pt c (Memref.whole cc0_scratch6) s6 ∗ pt c (Memref.whole cc0_scratch7) s7
            ∗ pt c (Memref.whole cc0_scratch8) s8 ∗ pt c (Memref.whole cc0_scratch9) s9
            ∗ pt c (Memref.whole cc0_scratch10) s10 ∗ pt c (Memref.whole cc0_scratch11) s11
            ∗ pt c (Memref.whole cc0_scratch12) s12 ∗ pt c (Memref.whole cc0_scratch13) s13
            ∗ pt c (Memref.whole cc0_scratch14) s14 ∗ pt c (Memref.whole cc0_scratch15) s15
            ∗ pt c (Memref.whole cc0_scratch16) s16 ∗ pt c (Memref.whole cc0_scratch17) s17
            ∗ pt c (Memref.whole cc0_scratch18) s18 ∗ pt c (Memref.whole cc0_scratch19) s19
            ∗ pt c (Memref.whole cc0_scratch20) s20 ∗ pt c (Memref.whole cc0_scratch21) s21
            ∗ pt c (Memref.whole cc0_scratch22) s22 ∗ pt c (Memref.whole cc0_scratch23) s23
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ semVal ((c : Thread nD τ), SemLoc.dma 14) 0 ∗ semVal ((c : Thread nD τ), SemLoc.dma 15) 0
            ∗ pt c (Memref.whole main_v3) f0 ∗ pt c (Memref.whole main_arg1) f1 ∗ pt c (Memref.whole main_v4) f2
            ∗ pt c (Memref.whole main_v5) f3 ∗ pt c (Memref.whole main_v6) f4 ∗ pt c (Memref.whole main_arg5) f5
            ∗ pt c (Memref.whole main_v10) f6 ∗ pt c (Memref.whole main_v11) f7 ∗ pt c (Memref.whole main_arg8) f8
            ∗ pt c (Memref.whole main_v12_0) o0 ∗ pt c (Memref.whole main_v12_1) o1 ∗ pt c (Memref.whole main_v12_2) o2
            ∗ pt c (Memref.whole main_v12_3) o3 ∗ pt c (Memref.whole main_v12_4) o4 ∗ pt c (Memref.whole main_v12_5) o5
            ∗ pt c (Memref.whole main_v12_6) o6 ∗ owes (c : Thread nD τ) 0 W
            ∗ (iprop((∃ f, pt c (Memref.whole cc0_scratch0) f) ∗ (∃ f, pt c (Memref.whole cc0_scratch1) f)
              ∗ (∃ f, pt c (Memref.whole cc0_scratch2) f) ∗ (∃ f, pt c (Memref.whole cc0_scratch3) f)
              ∗ (∃ f, pt c (Memref.whole cc0_scratch4) f) ∗ (∃ f, pt c (Memref.whole cc0_scratch5) f)
              ∗ (∃ f, pt c (Memref.whole cc0_scratch6) f) ∗ (∃ f, pt c (Memref.whole cc0_scratch7) f)
              ∗ (∃ f, pt c (Memref.whole cc0_scratch8) f) ∗ (∃ f, pt c (Memref.whole cc0_scratch9) f)
              ∗ (∃ f, pt c (Memref.whole cc0_scratch10) f) ∗ (∃ f, pt c (Memref.whole cc0_scratch11) f)
              ∗ (∃ f, pt c (Memref.whole cc0_scratch12) f) ∗ (∃ f, pt c (Memref.whole cc0_scratch13) f)
              ∗ (∃ f, pt c (Memref.whole cc0_scratch14) f) ∗ (∃ f, pt c (Memref.whole cc0_scratch15) f)
              ∗ (∃ f, pt c (Memref.whole cc0_scratch16) f) ∗ (∃ f, pt c (Memref.whole cc0_scratch17) f)
              ∗ (∃ f, pt c (Memref.whole cc0_scratch18) f) ∗ (∃ f, pt c (Memref.whole cc0_scratch19) f)
              ∗ (∃ f, pt c (Memref.whole cc0_scratch20) f) ∗ (∃ f, pt c (Memref.whole cc0_scratch21) f)
              ∗ (∃ f, pt c (Memref.whole cc0_scratch22) f) ∗ (∃ f, pt c (Memref.whole cc0_scratch23) f)
              ∗ semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0
              ∗ semVal ((c : Thread nD τ), SemLoc.dma 6) 0 ∗ semVal ((c : Thread nD τ), SemLoc.dma 7) 0
              ∗ semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0
              ∗ semVal ((c : Thread nD τ), SemLoc.dma 12) 0 ∗ semVal ((c : Thread nD τ), SemLoc.dma 13) 0
              ∗ semVal ((c : Thread nD τ), SemLoc.dma 14) 0 ∗ semVal ((c : Thread nD τ), SemLoc.dma 15) 0
              ∗ pt c (Memref.whole main_v3) f0 ∗ pt c (Memref.whole main_arg1) f1 ∗ pt c (Memref.whole main_v4) f2
              ∗ pt c (Memref.whole main_v5) f3 ∗ pt c (Memref.whole main_v6) f4 ∗ pt c (Memref.whole main_arg5) f5
              ∗ pt c (Memref.whole main_v10) f6 ∗ pt c (Memref.whole main_v11) f7 ∗ pt c (Memref.whole main_arg8) f8
              ∗ pt c (Memref.whole main_v12_0) G.1 ∗ pt c (Memref.whole main_v12_1) G.2.1
              ∗ pt c (Memref.whole main_v12_2) G.2.2.1 ∗ pt c (Memref.whole main_v12_3) G.2.2.2.1
              ∗ pt c (Memref.whole main_v12_4) G.2.2.2.2.1 ∗ pt c (Memref.whole main_v12_5) G.2.2.2.2.2.1
              ∗ pt c (Memref.whole main_v12_6) G.2.2.2.2.2.2 ∗ (∃ W', owes (c : Thread nD τ) 0 W')) -∗ K ⟨⟩))
          ⊢ wp frame (wpE (defs₀ (F := F)) Variants.none c none) Set.univ (bodyAt0 t0_0) K } := by
  refine ⟨⟨?_, ?_, ?_, ?_, ?_, ?_, ?_⟩, fun W K => ?run⟩
  case run =>
    unfold bodyAt0
    simp only [cc0_flow_step_eq_skeleton]; unfold cc0_flow_step_skel
    unfold pt
    iintro ⟨S0, S1, S2, S3, S4, S5, S6, S7, S8, S9, S10, S11, S12, S13, S14, S15, S16, S17, S18, S19, S20, S21, S22, S23, Q0, Q1, Q2, Q3, Q4, Q5, Q6, Q7, Q8, Q9, Q10, Q11, Q12, Q13, Q14, Q15, A0, A1, A2, A3, A4, A5, A6, A7, A8, O0, O1, O2, O3, O4, O5, O6, HW, Hk⟩
    sl_exec
    sl_step
    iapply Hk
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [O0]; · iexact O0
    isplitl [O1]; · iexact O1
    isplitl [O2]; · iexact O2
    isplitl [O3]; · iexact O3
    isplitl [O4]; · iexact O4
    isplitl [O5]; · iexact O5
    isplitl [O6]; · iexact O6
    iexists _; iexact HW

end Cert.Kernel.Hand
end
-- ==== Proof.KernelLaunch.lean ====
module

public import proofs.«01_k».proof.Proof.Gen.Kernel.Frame
public import proofs.«01_k».proof.Proof.KernelRun
public import Idealize.ShloMosaic.Lib.Pipeline.FrameBody
public import Idealize.ShloMosaic.Lib.Pipeline.FrameValue
public import Idealize.ShloMosaic.Lib.Tactic

/-!
# The launch of the kernel

The body run is lifted to the whole program: every run ends, no operation faults, the argument arrays are left as they
were, every semaphore counter is back at zero.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body writes itself: the seven results. -/
def R0 : Finset (Ref sig .tc) := {main_v12_0, main_v12_1, main_v12_2, main_v12_3, main_v12_4, main_v12_5, main_v12_6}
/-- The arrays the body reads by its own copies. -/
def H0 : Finset (Ref sig .tc) := {main_v3, main_arg1, main_v4, main_v5, main_v6, main_arg5, main_v10, main_v11, main_arg8}
/-- The body's sixteen transfer cells. -/
abbrev osem0 : Fin 16 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 16 → SemLoc sig) j
theorem ownSemFacts0 : Pipeline.OwnSemFacts (cfg0.spec) osem0 := by decide
theorem H0_sub : H0 ⊆ Pipeline.restRefs sig (cfg0.spec) := by decide
theorem R0_sub : R0 ⊆ Pipeline.restRefs sig (cfg0.spec) \ H0 := by decide

set_option maxHeartbeats 800000 in
/-- The host operations before the call, run up to it. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The transfer cells, each at zero, listed. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0) := by
  rw [Pipeline.ownSems0_eq_of_list c osem0 [0, 1, 2, 3, 4, 5, 6, 7, 8, 9, 10, 11, 12, 13, 14, 15] (by decide) (by decide)]; rfl

/-- The arrays read by the body's copies, listed. -/
theorem inputs_list (c : Dev nD) :
    (bigSep H0 (fun b => ((c : Thread nD τ).loc b) ↦{fullShare} V m c b) : sProp 𝕄)
      = iprop(pt c (Memref.whole main_v3) (V m c main_v3)
            ∗ pt c (Memref.whole main_arg1) (V m c main_arg1)
            ∗ pt c (Memref.whole main_v4) (V m c main_v4)
            ∗ pt c (Memref.whole main_v5) (V m c main_v5)
            ∗ pt c (Memref.whole main_v6) (V m c main_v6)
            ∗ pt c (Memref.whole main_arg5) (V m c main_arg5)
            ∗ pt c (Memref.whole main_v10) (V m c main_v10)
            ∗ pt c (Memref.whole main_v11) (V m c main_v11)
            ∗ pt c (Memref.whole main_arg8) (V m c main_arg8)) := by
  rw [BI.bigSep_eq_bigSepL_of_eq [main_v3, main_arg1, main_v4, main_v5, main_v6, main_arg5, main_v10, main_v11, main_arg8] (by decide) (by decide)]; rfl

/-- The scratch at some contents, listed. -/
theorem scratch_list (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f)
            ∗ (∃ f, pt c (Memref.whole cc0_scratch1) f)
            ∗ (∃ f, pt c (Memref.whole cc0_scratch2) f)
            ∗ (∃ f, pt c (Memref.whole cc0_scratch3) f)
            ∗ (∃ f, pt c (Memref.whole cc0_scratch4) f)
            ∗ (∃ f, pt c (Memref.whole cc0_scratch5) f)
            ∗ (∃ f, pt c (Memref.whole cc0_scratch6) f)
            ∗ (∃ f, pt c (Memref.whole cc0_scratch7) f)
            ∗ (∃ f, pt c (Memref.whole cc0_scratch8) f)
            ∗ (∃ f, pt c (Memref.whole cc0_scratch9) f)
            ∗ (∃ f, pt c (Memref.whole cc0_scratch10) f)
            ∗ (∃ f, pt c (Memref.whole cc0_scratch11) f)
            ∗ (∃ f, pt c (Memref.whole cc0_scratch12) f)
            ∗ (∃ f, pt c (Memref.whole cc0_scratch13) f)
            ∗ (∃ f, pt c (Memref.whole cc0_scratch14) f)
            ∗ (∃ f, pt c (Memref.whole cc0_scratch15) f)
            ∗ (∃ f, pt c (Memref.whole cc0_scratch16) f)
            ∗ (∃ f, pt c (Memref.whole cc0_scratch17) f)
            ∗ (∃ f, pt c (Memref.whole cc0_scratch18) f)
            ∗ (∃ f, pt c (Memref.whole cc0_scratch19) f)
            ∗ (∃ f, pt c (Memref.whole cc0_scratch20) f)
            ∗ (∃ f, pt c (Memref.whole cc0_scratch21) f)
            ∗ (∃ f, pt c (Memref.whole cc0_scratch22) f)
            ∗ (∃ f, pt c (Memref.whole cc0_scratch23) f)) :=
  scopedRest0_eq c

/-- The results at some contents, listed. -/
theorem owned_list (c : Dev nD) :
    (Pipeline.owned R0 c : sProp 𝕄)
      = iprop((∃ f, pt c (Memref.whole main_v12_0) f)
            ∗ (∃ f, pt c (Memref.whole main_v12_1) f)
            ∗ (∃ f, pt c (Memref.whole main_v12_2) f)
            ∗ (∃ f, pt c (Memref.whole main_v12_3) f)
            ∗ (∃ f, pt c (Memref.whole main_v12_4) f)
            ∗ (∃ f, pt c (Memref.whole main_v12_5) f)
            ∗ (∃ f, pt c (Memref.whole main_v12_6) f)) := by
  unfold Pipeline.owned; rw [BI.bigSep_eq_bigSepL_of_eq [main_v12_0, main_v12_1, main_v12_2, main_v12_3, main_v12_4, main_v12_5, main_v12_6] (by decide) (by decide)]; rfl

/-- The invariant of the body, listed. -/
theorem Phi_list (c : Dev nD) :
    (Pipeline.ΦDR osem0 (cfg0.spec) H0 R0 (V m) c : sProp 𝕄)
      = iprop(iprop((∃ f, pt c (Memref.whole cc0_scratch0) f)
            ∗ (∃ f, pt c (Memref.whole cc0_scratch1) f)
            ∗ (∃ f, pt c (Memref.whole cc0_scratch2) f)
            ∗ (∃ f, pt c (Memref.whole cc0_scratch3) f)
            ∗ (∃ f, pt c (Memref.whole cc0_scratch4) f)
            ∗ (∃ f, pt c (Memref.whole cc0_scratch5) f)
            ∗ (∃ f, pt c (Memref.whole cc0_scratch6) f)
            ∗ (∃ f, pt c (Memref.whole cc0_scratch7) f)
            ∗ (∃ f, pt c (Memref.whole cc0_scratch8) f)
            ∗ (∃ f, pt c (Memref.whole cc0_scratch9) f)
            ∗ (∃ f, pt c (Memref.whole cc0_scratch10) f)
            ∗ (∃ f, pt c (Memref.whole cc0_scratch11) f)
            ∗ (∃ f, pt c (Memref.whole cc0_scratch12) f)
            ∗ (∃ f, pt c (Memref.whole cc0_scratch13) f)
            ∗ (∃ f, pt c (Memref.whole cc0_scratch14) f)
            ∗ (∃ f, pt c (Memref.whole cc0_scratch15) f)
            ∗ (∃ f, pt c (Memref.whole cc0_scratch16) f)
            ∗ (∃ f, pt c (Memref.whole cc0_scratch17) f)
            ∗ (∃ f, pt c (Memref.whole cc0_scratch18) f)
            ∗ (∃ f, pt c (Memref.whole cc0_scratch19) f)
            ∗ (∃ f, pt c (Memref.whole cc0_scratch20) f)
            ∗ (∃ f, pt c (Memref.whole cc0_scratch21) f)
            ∗ (∃ f, pt c (Memref.whole cc0_scratch22) f)
            ∗ (∃ f, pt c (Memref.whole cc0_scratch23) f))
          ∗ (∃ r, prngReg c r)
          ∗ iprop(semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0)
          ∗ iprop(pt c (Memref.whole main_v3) (V m c main_v3)
            ∗ pt c (Memref.whole main_arg1) (V m c main_arg1)
            ∗ pt c (Memref.whole main_v4) (V m c main_v4)
            ∗ pt c (Memref.whole main_v5) (V m c main_v5)
            ∗ pt c (Memref.whole main_v6) (V m c main_v6)
            ∗ pt c (Memref.whole main_arg5) (V m c main_arg5)
            ∗ pt c (Memref.whole main_v10) (V m c main_v10)
            ∗ pt c (Memref.whole main_v11) (V m c main_v11)
            ∗ pt c (Memref.whole main_arg8) (V m c main_arg8))
          ∗ iprop((∃ f, pt c (Memref.whole main_v12_0) f)
            ∗ (∃ f, pt c (Memref.whole main_v12_1) f)
            ∗ (∃ f, pt c (Memref.whole main_v12_2) f)
            ∗ (∃ f, pt c (Memref.whole main_v12_3) f)
            ∗ (∃ f, pt c (Memref.whole main_v12_4) f)
            ∗ (∃ f, pt c (Memref.whole main_v12_5) f)
            ∗ (∃ f, pt c (Memref.whole main_v12_6) f))) := by
  rw [Pipeline.ΦDR_eq, scratch_list, ownSems0_list, inputs_list, owned_list]

/-- The proof data of the call: no windows, nothing owed. -/
def dats (_ : Fin 1) (c : Dev nD) : Dat τ (Elt F) Unit ℕ (Pipeline.UD sig nD τ) ℕ cfg0 c where
  A w := V m c (Pipeline.arrRef (cfg0.spec) w)
  after w := Fin.elim0 w
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by dsimp only [dats]

set_option maxHeartbeats 1600000 in
/-- The body at its one point takes the invariant before to the invariant after. -/
theorem sound_body (c : Dev nD) :
    iprop((dats m 0 c).Φ (t0_0 : Fin cfg0.N).castSucc ∗ (dats m 0 c).owesAt () (t0_0 : Fin cfg0.N).castSucc ∗ emp)
      ⊢ wp frame (wpE (defs₀ (F := F)) Variants.none c none) Set.univ (bodyAt0 t0_0)
        (fun _ => iprop((dats m 0 c).Φ (t0_0 : Fin cfg0.N).succ ∗ (dats m 0 c).owesAt () (t0_0 : Fin cfg0.N).succ ∗ emp)) := by
  rw [show (dats m 0 c).Φ (t0_0 : Fin cfg0.N).succ = Pipeline.ΦDR osem0 (cfg0.spec) H0 R0 (V m) c from rfl, Phi_list,
    show (dats m 0 c).Φ (t0_0 : Fin cfg0.N).castSucc = Pipeline.ΦDR osem0 (cfg0.spec) H0 R0 (V m) c from rfl, Phi_list]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩⟩, Hg, ⟨Q0, Q1, Q2, Q3, Q4, Q5, Q6, Q7, Q8, Q9, Q10, Q11, Q12, Q13, Q14, Q15⟩, ⟨A0, A1, A2, A3, A4, A5, A6, A7, A8⟩, ⟨⟨%o0, O0⟩, ⟨%o1, O1⟩, ⟨%o2, O2⟩, ⟨%o3, O3⟩, ⟨%o4, O4⟩, ⟨%o5, O5⟩, ⟨%o6, O6⟩⟩⟩, ⟨%W, -, HW⟩, He⟩
  iapply ((kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 o0 o1 o2 o3 o4 o5 o6).2 W _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [HW]; · iexact HW
  iintro ⟨S0, S1, S2, S3, S4, S5, S6, S7, S8, S9, S10, S11, S12, S13, S14, S15, S16, S17, S18, S19, S20, S21, S22, S23, Q0, Q1, Q2, Q3, Q4, Q5, Q6, Q7, Q8, Q9, Q10, Q11, Q12, Q13, Q14, Q15, A0, A1, A2, A3, A4, A5, A6, A7, A8, O0, O1, O2, O3, O4, O5, O6, ⟨%W', HW'⟩⟩
  isplitl [S0 S1 S2 S3 S4 S5 S6 S7 S8 S9 S10 S11 S12 S13 S14 S15 S16 S17 S18 S19 S20 S21 S22 S23 Q0 Q1 Q2 Q3 Q4 Q5 Q6 Q7 Q8 Q9 Q10 Q11 Q12 Q13 Q14 Q15 A0 A1 A2 A3 A4 A5 A6 A7 A8 O0 O1 O2 O3 O4 O5 O6 Hg]
  · isplitl [S0 S1 S2 S3 S4 S5 S6 S7 S8 S9 S10 S11 S12 S13 S14 S15 S16 S17 S18 S19 S20 S21 S22 S23]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      iexact S23
    isplitl [Hg]; · iexact Hg
    isplitl [Q0 Q1 Q2 Q3 Q4 Q5 Q6 Q7 Q8 Q9 Q10 Q11 Q12 Q13 Q14 Q15]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      iexact Q15
    isplitl [A0 A1 A2 A3 A4 A5 A6 A7 A8]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    iexists _; iexact O6
  isplitr [He]
  · iexists W'; isplitr
    · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

/-- The call's body obligation. -/
theorem body_obligation (c : Dev nD) : BodyObligation (dats (F := F) m 0 c) (defs₀ (F := F)) Variants.none () Set.univ := fun t => by
  obtain rfl : t = t0_0 := fin_N0 t
  rw [defs₀_row]
  have h := sound_body m c
  rw [BI.bigSep_eq_bigSepL_of_eq ([] : List (Fin cfg0.W)) (by decide) (by decide), BI.bigSep_eq_bigSepL_of_eq ([] : List (Fin cfg0.W)) (by decide) (by decide)]
  exact triple_restated h rfl .rfl fun _ => .rfl

set_option backward.isDefEq.respectTransparency.types false in
/-- The whole program's run. -/
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := fun r => Pipeline.FramePostR cfgs (dats m) 0 R0 (V m) r ∧ r.2.sem = fun _ => 0) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- Every run ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩, h.2⟩) (run_main m ρ)

end Cert.Kernel.Hand

end
-- ==== Proof.KernelIdealRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

/-!
# The body of the kernel, run once

The kernel's one call has no grid and no windows: its body starts nine copies into scratch, computes, and copies seven
arrays out. Here that body is run on whole buffers at arbitrary contents. The run leaves the nine inputs as they were,
the scratch at some contents, every transfer cell back at zero, and the seven results at the contents the run finds.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of the buffer behind a memref, on core `c`. -/
abbrev Bf (c : Dev nD) {sp : Space} {S : Shape} {e : EltTy} (M : Memref sig .tc sp S e) : Type := Buf (Elt F) (M.view.loc (c : Thread nD τ))
/-- The buffer behind a memref, owned whole at contents `f`. -/
abbrev pt (c : Dev nD) {sp : Space} {S : Shape} {e : EltTy} (M : Memref sig .tc sp S e) (f : Bf (F := F) c M) : sProp 𝕄 :=
  M.view.loc (c : Thread nD τ) ↦{fullShare} f

/-- On whole buffers at any contents, the cells at zero and the core's `owes`, the body runs to a continuation holding
    the nine inputs as they were, the scratch at some contents, the cells at zero, the seven results at the contents named
    by the first component, and the waits recorded. -/
noncomputable def kernelRun (c : Dev nD)
    (f0 : Bf (F := F) c (Memref.whole main_v3)) (f1 : Bf (F := F) c (Memref.whole main_arg1))
    (f2 : Bf (F := F) c (Memref.whole main_v4)) (f3 : Bf (F := F) c (Memref.whole main_v5))
    (f4 : Bf (F := F) c (Memref.whole main_v6)) (f5 : Bf (F := F) c (Memref.whole main_arg5))
    (f6 : Bf (F := F) c (Memref.whole main_v10)) (f7 : Bf (F := F) c (Memref.whole main_v11))
    (f8 : Bf (F := F) c (Memref.whole main_arg8))
    (s0 : Bf (F := F) c (Memref.whole cc0_scratch0)) (s1 : Bf (F := F) c (Memref.whole cc0_scratch1))
    (s2 : Bf (F := F) c (Memref.whole cc0_scratch2)) (s3 : Bf (F := F) c (Memref.whole cc0_scratch3))
    (s4 : Bf (F := F) c (Memref.whole cc0_scratch4)) (s5 : Bf (F := F) c (Memref.whole cc0_scratch5))
    (s6 : Bf (F := F) c (Memref.whole cc0_scratch6)) (s7 : Bf (F := F) c (Memref.whole cc0_scratch7))
    (s8 : Bf (F := F) c (Memref.whole cc0_scratch8)) (s9 : Bf (F := F) c (Memref.whole cc0_scratch9))
    (s10 : Bf (F := F) c (Memref.whole cc0_scratch10)) (s11 : Bf (F := F) c (Memref.whole cc0_scratch11))
    (s12 : Bf (F := F) c (Memref.whole cc0_scratch12)) (s13 : Bf (F := F) c (Memref.whole cc0_scratch13))
    (s14 : Bf (F := F) c (Memref.whole cc0_scratch14)) (s15 : Bf (F := F) c (Memref.whole cc0_scratch15))
    (s16 : Bf (F := F) c (Memref.whole cc0_scratch16)) (s17 : Bf (F := F) c (Memref.whole cc0_scratch17))
    (s18 : Bf (F := F) c (Memref.whole cc0_scratch18)) (s19 : Bf (F := F) c (Memref.whole cc0_scratch19))
    (s20 : Bf (F := F) c (Memref.whole cc0_scratch20)) (s21 : Bf (F := F) c (Memref.whole cc0_scratch21))
    (s22 : Bf (F := F) c (Memref.whole cc0_scratch22)) (s23 : Bf (F := F) c (Memref.whole cc0_scratch23))
    (o0 : Bf (F := F) c (Memref.whole main_v12_0)) (o1 : Bf (F := F) c (Memref.whole main_v12_1))
    (o2 : Bf (F := F) c (Memref.whole main_v12_2)) (o3 : Bf (F := F) c (Memref.whole main_v12_3))
    (o4 : Bf (F := F) c (Memref.whole main_v12_4)) (o5 : Bf (F := F) c (Memref.whole main_v12_5))
    (o6 : Bf (F := F) c (Memref.whole main_v12_6)) :
    { G : Bf (F := F) c (Memref.whole main_v12_0) × Bf (F := F) c (Memref.whole main_v12_1) × Bf (F := F) c (Memref.whole main_v12_2) × Bf (F := F) c (Memref.whole main_v12_3) × Bf (F := F) c (Memref.whole main_v12_4) × Bf (F := F) c (Memref.whole main_v12_5) × Bf (F := F) c (Memref.whole main_v12_6) //
      ∀ (W : Waits sig Unit) (K : PUnit → sProp 𝕄),
        iprop(pt c (Memref.whole cc0_scratch0) s0 ∗ pt c (Memref.whole cc0_scratch1) s1
            ∗ pt c (Memref.whole cc0_scratch2) s2 ∗ pt c (Memref.whole cc0_scratch3) s3
            ∗ pt c (Memref.whole cc0_scratch4) s4 ∗ pt c (Memref.whole cc0_scratch5) s5
            ∗ pt c (Memref.whole cc0_scratch6) s6 ∗ pt c (Memref.whole cc0_scratch7) s7
            ∗ pt c (Memref.whole cc0_scratch8) s8 ∗ pt c (Memref.whole cc0_scratch9) s9
            ∗ pt c (Memref.whole cc0_scratch10) s10 ∗ pt c (Memref.whole cc0_scratch11) s11
            ∗ pt c (Memref.whole cc0_scratch12) s12 ∗ pt c (Memref.whole cc0_scratch13) s13
            ∗ pt c (Memref.whole cc0_scratch14) s14 ∗ pt c (Memref.whole cc0_scratch15) s15
            ∗ pt c (Memref.whole cc0_scratch16) s16 ∗ pt c (Memref.whole cc0_scratch17) s17
            ∗ pt c (Memref.whole cc0_scratch18) s18 ∗ pt c (Memref.whole cc0_scratch19) s19
            ∗ pt c (Memref.whole cc0_scratch20) s20 ∗ pt c (Memref.whole cc0_scratch21) s21
            ∗ pt c (Memref.whole cc0_scratch22) s22 ∗ pt c (Memref.whole cc0_scratch23) s23
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ semVal ((c : Thread nD τ), SemLoc.dma 10) 0 ∗ semVal ((c : Thread nD τ), SemLoc.dma 11) 0
            ∗ semVal ((c : Thread nD τ), SemLoc.dma 12) 0 ∗ semVal ((c : Thread nD τ), SemLoc.dma 13) 0
            ∗ semVal ((c : Thread nD τ), SemLoc.dma 14) 0 ∗ semVal ((c : Thread nD τ), SemLoc.dma 15) 0
            ∗ pt c (Memref.whole main_v3) f0 ∗ pt c (Memref.whole main_arg1) f1 ∗ pt c (Memref.whole main_v4) f2
            ∗ pt c (Memref.whole main_v5) f3 ∗ pt c (Memref.whole main_v6) f4 ∗ pt c (Memref.whole main_arg5) f5
            ∗ pt c (Memref.whole main_v10) f6 ∗ pt c (Memref.whole main_v11) f7 ∗ pt c (Memref.whole main_arg8) f8
            ∗ pt c (Memref.whole main_v12_0) o0 ∗ pt c (Memref.whole main_v12_1) o1 ∗ pt c (Memref.whole main_v12_2) o2
            ∗ pt c (Memref.whole main_v12_3) o3 ∗ pt c (Memref.whole main_v12_4) o4 ∗ pt c (Memref.whole main_v12_5) o5
            ∗ pt c (Memref.whole main_v12_6) o6 ∗ owes (c : Thread nD τ) 0 W
            ∗ (iprop((∃ f, pt c (Memref.whole cc0_scratch0) f) ∗ (∃ f, pt c (Memref.whole cc0_scratch1) f)
              ∗ (∃ f, pt c (Memref.whole cc0_scratch2) f) ∗ (∃ f, pt c (Memref.whole cc0_scratch3) f)
              ∗ (∃ f, pt c (Memref.whole cc0_scratch4) f) ∗ (∃ f, pt c (Memref.whole cc0_scratch5) f)
              ∗ (∃ f, pt c (Memref.whole cc0_scratch6) f) ∗ (∃ f, pt c (Memref.whole cc0_scratch7) f)
              ∗ (∃ f, pt c (Memref.whole cc0_scratch8) f) ∗ (∃ f, pt c (Memref.whole cc0_scratch9) f)
              ∗ (∃ f, pt c (Memref.whole cc0_scratch10) f) ∗ (∃ f, pt c (Memref.whole cc0_scratch11) f)
              ∗ (∃ f, pt c (Memref.whole cc0_scratch12) f) ∗ (∃ f, pt c (Memref.whole cc0_scratch13) f)
              ∗ (∃ f, pt c (Memref.whole cc0_scratch14) f) ∗ (∃ f, pt c (Memref.whole cc0_scratch15) f)
              ∗ (∃ f, pt c (Memref.whole cc0_scratch16) f) ∗ (∃ f, pt c (Memref.whole cc0_scratch17) f)
              ∗ (∃ f, pt c (Memref.whole cc0_scratch18) f) ∗ (∃ f, pt c (Memref.whole cc0_scratch19) f)
              ∗ (∃ f, pt c (Memref.whole cc0_scratch20) f) ∗ (∃ f, pt c (Memref.whole cc0_scratch21) f)
              ∗ (∃ f, pt c (Memref.whole cc0_scratch22) f) ∗ (∃ f, pt c (Memref.whole cc0_scratch23) f)
              ∗ semVal ((c : Thread nD τ), SemLoc.dma 0) 0 ∗ semVal ((c : Thread nD τ), SemLoc.dma 1) 0
              ∗ semVal ((c : Thread nD τ), SemLoc.dma 2) 0 ∗ semVal ((c : Thread nD τ), SemLoc.dma 3) 0
              ∗ semVal ((c : Thread nD τ), SemLoc.dma 4) 0 ∗ semVal ((c : Thread nD τ), SemLoc.dma 5) 0
              ∗ semVal ((c : Thread nD τ), SemLoc.dma 6) 0 ∗ semVal ((c : Thread nD τ), SemLoc.dma 7) 0
              ∗ semVal ((c : Thread nD τ), SemLoc.dma 8) 0 ∗ semVal ((c : Thread nD τ), SemLoc.dma 9) 0
              ∗ semVal ((c : Thread nD τ), SemLoc.dma 10) 0 ∗ semVal ((c : Thread nD τ), SemLoc.dma 11) 0
              ∗ semVal ((c : Thread nD τ), SemLoc.dma 12) 0 ∗ semVal ((c : Thread nD τ), SemLoc.dma 13) 0
              ∗ semVal ((c : Thread nD τ), SemLoc.dma 14) 0 ∗ semVal ((c : Thread nD τ), SemLoc.dma 15) 0
              ∗ pt c (Memref.whole main_v3) f0 ∗ pt c (Memref.whole main_arg1) f1 ∗ pt c (Memref.whole main_v4) f2
              ∗ pt c (Memref.whole main_v5) f3 ∗ pt c (Memref.whole main_v6) f4 ∗ pt c (Memref.whole main_arg5) f5
              ∗ pt c (Memref.whole main_v10) f6 ∗ pt c (Memref.whole main_v11) f7 ∗ pt c (Memref.whole main_arg8) f8
              ∗ pt c (Memref.whole main_v12_0) G.1 ∗ pt c (Memref.whole main_v12_1) G.2.1
              ∗ pt c (Memref.whole main_v12_2) G.2.2.1 ∗ pt c (Memref.whole main_v12_3) G.2.2.2.1
              ∗ pt c (Memref.whole main_v12_4) G.2.2.2.2.1 ∗ pt c (Memref.whole main_v12_5) G.2.2.2.2.2.1
              ∗ pt c (Memref.whole main_v12_6) G.2.2.2.2.2.2 ∗ (∃ W', owes (c : Thread nD τ) 0 W')) -∗ K ⟨⟩))
          ⊢ wp frame (wpE (defs₀ (F := F)) Variants.none c none) Set.univ (bodyAt0 t0_0) K } := by
  refine ⟨⟨?_, ?_, ?_, ?_, ?_, ?_, ?_⟩, fun W K => ?run⟩
  case run =>
    unfold bodyAt0
    simp only [cc0_flow_step_eq_skeleton]; unfold cc0_flow_step_skel
    unfold pt
    iintro ⟨S0, S1, S2, S3, S4, S5, S6, S7, S8, S9, S10, S11, S12, S13, S14, S15, S16, S17, S18, S19, S20, S21, S22, S23, Q0, Q1, Q2, Q3, Q4, Q5, Q6, Q7, Q8, Q9, Q10, Q11, Q12, Q13, Q14, Q15, A0, A1, A2, A3, A4, A5, A6, A7, A8, O0, O1, O2, O3, O4, O5, O6, HW, Hk⟩
    sl_exec
    sl_step
    iapply Hk
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [S13]; · iexists _; iexact S13
    isplitl [S14]; · iexists _; iexact S14
    isplitl [S15]; · iexists _; iexact S15
    isplitl [S16]; · iexists _; iexact S16
    isplitl [S17]; · iexists _; iexact S17
    isplitl [S18]; · iexists _; iexact S18
    isplitl [S19]; · iexists _; iexact S19
    isplitl [S20]; · iexists _; iexact S20
    isplitl [S21]; · iexists _; iexact S21
    isplitl [S22]; · iexists _; iexact S22
    isplitl [S23]; · iexists _; iexact S23
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [O0]; · iexact O0
    isplitl [O1]; · iexact O1
    isplitl [O2]; · iexact O2
    isplitl [O3]; · iexact O3
    isplitl [O4]; · iexact O4
    isplitl [O5]; · iexact O5
    isplitl [O6]; · iexact O6
    iexists _; iexact HW

end Cert.KernelIdeal.Hand
end
-- ==== Proof.KernelIdealLaunch.lean ====
module

public import proofs.«01_k».proof.Proof.Gen.KernelIdeal.Frame
public import proofs.«01_k».proof.Proof.KernelIdealRun
public import Idealize.ShloMosaic.Lib.Pipeline.FrameBody
public import Idealize.ShloMosaic.Lib.Pipeline.FrameValue
public import Idealize.ShloMosaic.Lib.Tactic

/-!
# The launch of the kernel

The body run is lifted to the whole program: every run ends, no operation faults, the argument arrays are left as they
were, every semaphore counter is back at zero, and the seven results hold stated contents.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body writes itself: the seven results. -/
def R0 : Finset (Ref sig .tc) := {main_v12_0, main_v12_1, main_v12_2, main_v12_3, main_v12_4, main_v12_5, main_v12_6}
/-- The arrays the body reads by its own copies. -/
def H0 : Finset (Ref sig .tc) := {main_v3, main_arg1, main_v4, main_v5, main_v6, main_arg5, main_v10, main_v11, main_arg8}
/-- The body's sixteen transfer cells. -/
abbrev osem0 : Fin 16 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 16 → SemLoc sig) j
theorem ownSemFacts0 : Pipeline.OwnSemFacts (cfg0.spec) osem0 := by decide
theorem H0_sub : H0 ⊆ Pipeline.restRefs sig (cfg0.spec) := by decide
theorem R0_sub : R0 ⊆ Pipeline.restRefs sig (cfg0.spec) \ H0 := by decide

set_option maxHeartbeats 800000 in
/-- The host operations before the call, run up to it. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The transfer cells, each at zero, listed. -/
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0) := by
  rw [Pipeline.ownSems0_eq_of_list c osem0 [0, 1, 2, 3, 4, 5, 6, 7, 8, 9, 10, 11, 12, 13, 14, 15] (by decide) (by decide)]; rfl

/-- The arrays read by the body's copies, listed. -/
theorem inputs_list (c : Dev nD) :
    (bigSep H0 (fun b => ((c : Thread nD τ).loc b) ↦{fullShare} V m c b) : sProp 𝕄)
      = iprop(pt c (Memref.whole main_v3) (V m c main_v3)
            ∗ pt c (Memref.whole main_arg1) (V m c main_arg1)
            ∗ pt c (Memref.whole main_v4) (V m c main_v4)
            ∗ pt c (Memref.whole main_v5) (V m c main_v5)
            ∗ pt c (Memref.whole main_v6) (V m c main_v6)
            ∗ pt c (Memref.whole main_arg5) (V m c main_arg5)
            ∗ pt c (Memref.whole main_v10) (V m c main_v10)
            ∗ pt c (Memref.whole main_v11) (V m c main_v11)
            ∗ pt c (Memref.whole main_arg8) (V m c main_arg8)) := by
  rw [BI.bigSep_eq_bigSepL_of_eq [main_v3, main_arg1, main_v4, main_v5, main_v6, main_arg5, main_v10, main_v11, main_arg8] (by decide) (by decide)]; rfl

/-- The scratch at some contents, listed. -/
theorem scratch_list (c : Dev nD) :
    (Pipeline.scopedRest (Ix := Unit) (Name := ℕ) (U := Pipeline.UD sig nD τ) (Lvl := ℕ) (Val := Elt F) (cfg0.spec) c : sProp 𝕄)
      = iprop((∃ f, pt c (Memref.whole cc0_scratch0) f)
            ∗ (∃ f, pt c (Memref.whole cc0_scratch1) f)
            ∗ (∃ f, pt c (Memref.whole cc0_scratch2) f)
            ∗ (∃ f, pt c (Memref.whole cc0_scratch3) f)
            ∗ (∃ f, pt c (Memref.whole cc0_scratch4) f)
            ∗ (∃ f, pt c (Memref.whole cc0_scratch5) f)
            ∗ (∃ f, pt c (Memref.whole cc0_scratch6) f)
            ∗ (∃ f, pt c (Memref.whole cc0_scratch7) f)
            ∗ (∃ f, pt c (Memref.whole cc0_scratch8) f)
            ∗ (∃ f, pt c (Memref.whole cc0_scratch9) f)
            ∗ (∃ f, pt c (Memref.whole cc0_scratch10) f)
            ∗ (∃ f, pt c (Memref.whole cc0_scratch11) f)
            ∗ (∃ f, pt c (Memref.whole cc0_scratch12) f)
            ∗ (∃ f, pt c (Memref.whole cc0_scratch13) f)
            ∗ (∃ f, pt c (Memref.whole cc0_scratch14) f)
            ∗ (∃ f, pt c (Memref.whole cc0_scratch15) f)
            ∗ (∃ f, pt c (Memref.whole cc0_scratch16) f)
            ∗ (∃ f, pt c (Memref.whole cc0_scratch17) f)
            ∗ (∃ f, pt c (Memref.whole cc0_scratch18) f)
            ∗ (∃ f, pt c (Memref.whole cc0_scratch19) f)
            ∗ (∃ f, pt c (Memref.whole cc0_scratch20) f)
            ∗ (∃ f, pt c (Memref.whole cc0_scratch21) f)
            ∗ (∃ f, pt c (Memref.whole cc0_scratch22) f)
            ∗ (∃ f, pt c (Memref.whole cc0_scratch23) f)) :=
  scopedRest0_eq c

/-- The results at stated contents, listed. -/
theorem routed_list (c : Dev nD) (G : (b : Ref sig .tc) → Buf (Elt F) ((c : Thread nD τ).loc b)) :
    (Pipeline.routed R0 c G : sProp 𝕄)
      = iprop(pt c (Memref.whole main_v12_0) (G main_v12_0)
            ∗ pt c (Memref.whole main_v12_1) (G main_v12_1)
            ∗ pt c (Memref.whole main_v12_2) (G main_v12_2)
            ∗ pt c (Memref.whole main_v12_3) (G main_v12_3)
            ∗ pt c (Memref.whole main_v12_4) (G main_v12_4)
            ∗ pt c (Memref.whole main_v12_5) (G main_v12_5)
            ∗ pt c (Memref.whole main_v12_6) (G main_v12_6)) := by
  unfold Pipeline.routed; rw [BI.bigSep_eq_bigSepL_of_eq [main_v12_0, main_v12_1, main_v12_2, main_v12_3, main_v12_4, main_v12_5, main_v12_6] (by decide) (by decide)]; rfl

set_option maxHeartbeats 1600000 in
/-- The invariant of the body, listed. -/
theorem Phi_list (c : Dev nD) (G : (c : Dev nD) → (b : Ref sig .tc) → Buf (Elt F) ((c : Thread nD τ).loc b)) :
    (Pipeline.ΦDRG osem0 (cfg0.spec) H0 R0 (V m) G c : sProp 𝕄)
      = iprop(iprop((∃ f, pt c (Memref.whole cc0_scratch0) f)
            ∗ (∃ f, pt c (Memref.whole cc0_scratch1) f)
            ∗ (∃ f, pt c (Memref.whole cc0_scratch2) f)
            ∗ (∃ f, pt c (Memref.whole cc0_scratch3) f)
            ∗ (∃ f, pt c (Memref.whole cc0_scratch4) f)
            ∗ (∃ f, pt c (Memref.whole cc0_scratch5) f)
            ∗ (∃ f, pt c (Memref.whole cc0_scratch6) f)
            ∗ (∃ f, pt c (Memref.whole cc0_scratch7) f)
            ∗ (∃ f, pt c (Memref.whole cc0_scratch8) f)
            ∗ (∃ f, pt c (Memref.whole cc0_scratch9) f)
            ∗ (∃ f, pt c (Memref.whole cc0_scratch10) f)
            ∗ (∃ f, pt c (Memref.whole cc0_scratch11) f)
            ∗ (∃ f, pt c (Memref.whole cc0_scratch12) f)
            ∗ (∃ f, pt c (Memref.whole cc0_scratch13) f)
            ∗ (∃ f, pt c (Memref.whole cc0_scratch14) f)
            ∗ (∃ f, pt c (Memref.whole cc0_scratch15) f)
            ∗ (∃ f, pt c (Memref.whole cc0_scratch16) f)
            ∗ (∃ f, pt c (Memref.whole cc0_scratch17) f)
            ∗ (∃ f, pt c (Memref.whole cc0_scratch18) f)
            ∗ (∃ f, pt c (Memref.whole cc0_scratch19) f)
            ∗ (∃ f, pt c (Memref.whole cc0_scratch20) f)
            ∗ (∃ f, pt c (Memref.whole cc0_scratch21) f)
            ∗ (∃ f, pt c (Memref.whole cc0_scratch22) f)
            ∗ (∃ f, pt c (Memref.whole cc0_scratch23) f))
          ∗ (∃ r, prngReg c r)
          ∗ iprop(semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0)
          ∗ iprop(pt c (Memref.whole main_v3) (V m c main_v3)
            ∗ pt c (Memref.whole main_arg1) (V m c main_arg1)
            ∗ pt c (Memref.whole main_v4) (V m c main_v4)
            ∗ pt c (Memref.whole main_v5) (V m c main_v5)
            ∗ pt c (Memref.whole main_v6) (V m c main_v6)
            ∗ pt c (Memref.whole main_arg5) (V m c main_arg5)
            ∗ pt c (Memref.whole main_v10) (V m c main_v10)
            ∗ pt c (Memref.whole main_v11) (V m c main_v11)
            ∗ pt c (Memref.whole main_arg8) (V m c main_arg8))
          ∗ iprop(pt c (Memref.whole main_v12_0) (G c main_v12_0)
            ∗ pt c (Memref.whole main_v12_1) (G c main_v12_1)
            ∗ pt c (Memref.whole main_v12_2) (G c main_v12_2)
            ∗ pt c (Memref.whole main_v12_3) (G c main_v12_3)
            ∗ pt c (Memref.whole main_v12_4) (G c main_v12_4)
            ∗ pt c (Memref.whole main_v12_5) (G c main_v12_5)
            ∗ pt c (Memref.whole main_v12_6) (G c main_v12_6))) := by
  rw [Pipeline.ΦDRG_eq, scratch_list, ownSems0_list, inputs_list, routed_list]

variable (G : (c : Dev nD) → (b : Ref sig .tc) → Buf (Elt F) ((c : Thread nD τ).loc b))

/-- The body's run leaves the seven results at `G`, whatever the scratch and the results held before. -/
def ResultsAre : Prop := ∀ (c : Dev nD)
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (s17 : Bf (F := F) c (Memref.whole cc0_scratch17)) (s18 : Bf (F := F) c (Memref.whole cc0_scratch18)) (s19 : Bf (F := F) c (Memref.whole cc0_scratch19)) (s20 : Bf (F := F) c (Memref.whole cc0_scratch20)) (s21 : Bf (F := F) c (Memref.whole cc0_scratch21)) (s22 : Bf (F := F) c (Memref.whole cc0_scratch22)) (s23 : Bf (F := F) c (Memref.whole cc0_scratch23)),
    (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1
      = ⟨G c main_v12_0, G c main_v12_1, G c main_v12_2, G c main_v12_3, G c main_v12_4, G c main_v12_5, G c main_v12_6⟩

/-- The proof data of the call: no windows, nothing owed. -/
def dats (_ : Fin 1) (c : Dev nD) : Dat τ (Elt F) Unit ℕ (Pipeline.UD sig nD τ) ℕ cfg0 c where
  A w := V m c (Pipeline.arrRef (cfg0.spec) w)
  after w := Fin.elim0 w
  Φ t := if t.val = 0 then Pipeline.ΦDRG osem0 (cfg0.spec) H0 R0 (V m) (V m) c else Pipeline.ΦDRG osem0 (cfg0.spec) H0 R0 (V m) G c
  q _ := fullShare
  owed _ := 0

theorem A_eq (c : Dev nD) (w : Fin cfg0.W) : (dats m G 0 c).A w = V m c (Pipeline.arrRef (cfg0.spec) w) := by dsimp only [dats]

set_option maxHeartbeats 1600000 in
/-- The body at its one point takes the invariant before to the invariant after. -/
theorem sound_body (hG : ResultsAre m G) (c : Dev nD) :
    iprop((dats m G 0 c).Φ (t0_0 : Fin cfg0.N).castSucc ∗ (dats m G 0 c).owesAt () (t0_0 : Fin cfg0.N).castSucc ∗ emp)
      ⊢ wp frame (wpE (defs₀ (F := F)) Variants.none c none) Set.univ (bodyAt0 t0_0)
        (fun _ => iprop((dats m G 0 c).Φ (t0_0 : Fin cfg0.N).succ ∗ (dats m G 0 c).owesAt () (t0_0 : Fin cfg0.N).succ ∗ emp)) := by
  rw [show (dats m G 0 c).Φ (t0_0 : Fin cfg0.N).succ = Pipeline.ΦDRG osem0 (cfg0.spec) H0 R0 (V m) G c from rfl, Phi_list,
    show (dats m G 0 c).Φ (t0_0 : Fin cfg0.N).castSucc = Pipeline.ΦDRG osem0 (cfg0.spec) H0 R0 (V m) (V m) c from rfl, Phi_list]
  unfold Dat.owesAt Pipeline.owesWithin
  rw [show (dats m G 0 c).owed (t0_0 : Fin cfg0.N).castSucc = 0 from rfl, show (dats m G 0 c).owed (t0_0 : Fin cfg0.N).succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s13, S13⟩, ⟨%s14, S14⟩, ⟨%s15, S15⟩, ⟨%s16, S16⟩, ⟨%s17, S17⟩, ⟨%s18, S18⟩, ⟨%s19, S19⟩, ⟨%s20, S20⟩, ⟨%s21, S21⟩, ⟨%s22, S22⟩, ⟨%s23, S23⟩⟩, Hg, ⟨Q0, Q1, Q2, Q3, Q4, Q5, Q6, Q7, Q8, Q9, Q10, Q11, Q12, Q13, Q14, Q15⟩, ⟨A0, A1, A2, A3, A4, A5, A6, A7, A8⟩, ⟨O0, O1, O2, O3, O4, O5, O6⟩⟩, ⟨%W, -, HW⟩, He⟩
  iapply ((kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).2 W _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [HW]; · iexact HW
  rw [hG c s0 s1 s2 s3 s4 s5 s6 s7 s8 s9 s10 s11 s12 s13 s14 s15 s16 s17 s18 s19 s20 s21 s22 s23]
  iintro ⟨S0, S1, S2, S3, S4, S5, S6, S7, S8, S9, S10, S11, S12, S13, S14, S15, S16, S17, S18, S19, S20, S21, S22, S23, Q0, Q1, Q2, Q3, Q4, Q5, Q6, Q7, Q8, Q9, Q10, Q11, Q12, Q13, Q14, Q15, A0, A1, A2, A3, A4, A5, A6, A7, A8, O0, O1, O2, O3, O4, O5, O6, ⟨%W', HW'⟩⟩
  isplitl [S0 S1 S2 S3 S4 S5 S6 S7 S8 S9 S10 S11 S12 S13 S14 S15 S16 S17 S18 S19 S20 S21 S22 S23 Q0 Q1 Q2 Q3 Q4 Q5 Q6 Q7 Q8 Q9 Q10 Q11 Q12 Q13 Q14 Q15 A0 A1 A2 A3 A4 A5 A6 A7 A8 O0 O1 O2 O3 O4 O5 O6 Hg]
  · isplitl [S0 S1 S2 S3 S4 S5 S6 S7 S8 S9 S10 S11 S12 S13 S14 S15 S16 S17 S18 S19 S20 S21 S22 S23]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      iexact S23
    isplitl [Hg]; · iexact Hg
    isplitl [Q0 Q1 Q2 Q3 Q4 Q5 Q6 Q7 Q8 Q9 Q10 Q11 Q12 Q13 Q14 Q15]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      iexact Q15
    isplitl [A0 A1 A2 A3 A4 A5 A6 A7 A8]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [O0]; · iexact O0
    isplitl [O1]; · iexact O1
    isplitl [O2]; · iexact O2
    isplitl [O3]; · iexact O3
    isplitl [O4]; · iexact O4
    isplitl [O5]; · iexact O5
    iexact O6
  isplitr [He]
  · iexists W'; isplitr
    · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

/-- The call's body obligation. -/
theorem body_obligation (hG : ResultsAre m G) (c : Dev nD) : BodyObligation (dats (F := F) m G 0 c) (defs₀ (F := F)) Variants.none () Set.univ := fun t => by
  obtain rfl : t = t0_0 := fin_N0 t
  rw [defs₀_row]
  have h := sound_body m G hG c
  rw [BI.bigSep_eq_bigSepL_of_eq ([] : List (Fin cfg0.W)) (by decide) (by decide), BI.bigSep_eq_bigSepL_of_eq ([] : List (Fin cfg0.W)) (by decide) (by decide)]
  exact triple_restated h rfl .rfl fun _ => .rfl

set_option backward.isDefEq.respectTransparency.types false in
/-- The whole program's run. -/
theorem run_main (hG : ResultsAre m G) : θ_run defs (onTc (τ := τ) (main (F := F))) (s₀ m ρ) (fun r => Pipeline.FramePostRG cfgs (dats m G) 0 R0 (V m) G r ∧ r.2.sem = fun _ => 0) :=
  Pipeline.θ_run_frame_dmaRG (Q' := fun r => Pipeline.FramePostRG cfgs (dats m G) 0 R0 (V m) G r ∧ r.2.sem = fun _ => 0) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (hmain := hmainD m Variants.none) (hA := A_eq m G) (G := G)
    (hin := fun _ => .rfl) (hout := fun _ => .rfl)

/-- Every run ends with the argument arrays as they were and every semaphore counter at zero. -/
theorem frame (hG : ResultsAre m G) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1.toR c).2 main_arg0 (Finset.mem_sdiff.mpr ⟨Pipeline.mem_restRefs_of main_arg0 (by decide) (by decide), by decide⟩)).trans (V_main_arg0 m c),
    ((h.1.toR c).2 main_arg1 (Finset.mem_sdiff.mpr ⟨Pipeline.mem_restRefs_of main_arg1 (by decide) (by decide), by decide⟩)).trans (V_main_arg1 m c),
    ((h.1.toR c).2 main_arg2 (Finset.mem_sdiff.mpr ⟨Pipeline.mem_restRefs_of main_arg2 (by decide) (by decide), by decide⟩)).trans (V_main_arg2 m c),
    ((h.1.toR c).2 main_arg3 (Finset.mem_sdiff.mpr ⟨Pipeline.mem_restRefs_of main_arg3 (by decide) (by decide), by decide⟩)).trans (V_main_arg3 m c),
    ((h.1.toR c).2 main_arg4 (Finset.mem_sdiff.mpr ⟨Pipeline.mem_restRefs_of main_arg4 (by decide) (by decide), by decide⟩)).trans (V_main_arg4 m c),
    ((h.1.toR c).2 main_arg5 (Finset.mem_sdiff.mpr ⟨Pipeline.mem_restRefs_of main_arg5 (by decide) (by decide), by decide⟩)).trans (V_main_arg5 m c),
    ((h.1.toR c).2 main_arg6 (Finset.mem_sdiff.mpr ⟨Pipeline.mem_restRefs_of main_arg6 (by decide) (by decide), by decide⟩)).trans (V_main_arg6 m c),
    ((h.1.toR c).2 main_arg7 (Finset.mem_sdiff.mpr ⟨Pipeline.mem_restRefs_of main_arg7 (by decide) (by decide), by decide⟩)).trans (V_main_arg7 m c),
    ((h.1.toR c).2 main_arg8 (Finset.mem_sdiff.mpr ⟨Pipeline.mem_restRefs_of main_arg8 (by decide) (by decide), by decide⟩)).trans (V_main_arg8 m c)⟩, h.2⟩) (run_main m ρ G hG)

end Cert.KernelIdeal.Hand

end
-- ==== Proof.KernelIdealPieces.lean ====
module

public import proofs.«01_k».proof.Proof.KernelIdealRun

/-!
# What the stores of the body write, block by block

The body is written out in full: the same few lines for every block of rows, every plane of lanes and every block of
columns. Here each of those lines is written once, with the block as an argument, and the list of the stores into each
scratch buffer (the last store first) is the list of those lines over all blocks. That a list of the run is the list
written here holds by unfolding both.
-/

@[expose] public section

set_option maxRecDepth 16384

noncomputable section

namespace Cert.KernelIdeal.Hand

open Cert.KernelIdeal Cert.KernelIdeal.Gen
open Idealize.ShloMosaic Idealize.ShloMosaic.TcCoe

/-- The values of a family over `Fin n`, the last one first. -/
def lst {α : Type} : (n : ℕ) → (Fin n → α) → List α
  | 0, _ => []
  | n + 1, f => f (Fin.last n) :: lst n fun i => f i.castSucc

/-- The lists of a family over `Fin n` joined, the last one first. -/
def lst2 {α : Type} : (n : ℕ) → (Fin n → List α) → List α
  | 0, _ => []
  | n + 1, f => f (Fin.last n) ++ lst2 n fun i => f i.castSucc

theorem mem_lst {α : Type} {x : α} : {n : ℕ} → {f : Fin n → α} → x ∈ lst n f ↔ ∃ i, x = f i
  | 0, f => by simp [lst]
  | n + 1, f => by
    simp only [lst, List.mem_cons, mem_lst]
    constructor
    · rintro (h | ⟨i, h⟩)
      exacts [⟨_, h⟩, ⟨_, h⟩]
    · rintro ⟨i, h⟩
      induction i using Fin.lastCases with
      | last => exact .inl h
      | cast i => exact .inr ⟨i, h⟩

theorem mem_lst2 {α : Type} {x : α} : {n : ℕ} → {f : Fin n → List α} → x ∈ lst2 n f ↔ ∃ i, x ∈ f i
  | 0, f => by simp [lst2]
  | n + 1, f => by
    simp only [lst2, List.mem_append, mem_lst2]
    constructor
    · rintro (h | ⟨i, h⟩)
      exacts [⟨_, h⟩, ⟨_, h⟩]
    · rintro ⟨i, h⟩
      induction i using Fin.lastCases with
      | last => exact .inl h
      | cast i => exact .inr ⟨i, h⟩

variable {F : FTy → Type} [FloatOps F] {c : Dev nD}

/-! ## The positions of the blocks -/

theorem in5 (p : Fin 8) (g : Fin 10) : ∀ a, (![p.val, 32 * g.val, 0] : Fin 3 → ℕ) a + S1x32x128.size a ≤ S8x328x128.size a := by
  revert p g; decide
theorem in5f (p : Fin 8) : ∀ a, (![p.val, 0, 0] : Fin 3 → ℕ) a + S1x320x128.size a ≤ S8x328x128.size a := by
  revert p; decide
theorem in5s (p : Fin 8) (b : Fin 6) : ∀ a, (![p.val, 51 * b.val, 0] : Fin 3 → ℕ) a + S1x51x128.size a ≤ S8x328x128.size a := by
  revert p b; decide
theorem in6 (p : Fin 8) (g : Fin 10) : ∀ a, (![p.val, 32 * g.val, 0] : Fin 3 → ℕ) a + S1x32x128.size a ≤ S8x320x128.size a := by
  revert p g; decide
theorem in6f (p : Fin 8) : ∀ a, (![p.val, 0, 0] : Fin 3 → ℕ) a + S1x320x128.size a ≤ S8x320x128.size a := by
  revert p; decide
theorem in7 (g : Fin 10) : ∀ a, (![32 * g.val, 0] : Fin 2 → ℕ) a + S32x128.size a ≤ S328x128.size a := by
  revert g; decide
theorem in7s (b : Fin 6) : ∀ a, (![51 * b.val, 0] : Fin 2 → ℕ) a + S56x128.size a ≤ S328x128.size a := by
  revert b; decide
theorem in0 (p : Fin 8) : ∀ a, (![0, 128 * p.val] : Fin 2 → ℕ) a + S1x128.size a ≤ S1x1024.size a := by
  revert p; decide
theorem in1 (i : Fin 2) (n : Fin 16) : ∀ a, (![i.val, 0, 256 * n.val] : Fin 3 → ℕ) a + S1x1024x256.size a ≤ S2x1024x4096.size a := by
  revert i n; decide
theorem in2 (i : Fin 2) (n : Fin 16) : ∀ a, (![i.val, 256 * n.val] : Fin 2 → ℕ) a + S1x256.size a ≤ S2x4096.size a := by
  revert i n; decide
theorem in3 (n : Fin 2) : ∀ a, (![0, 512 * n.val] : Fin 2 → ℕ) a + S4096x512.size a ≤ S4096x1024.size a := by
  revert n; decide
theorem in4 (n : Fin 2) : ∀ a, (![0, 512 * n.val] : Fin 2 → ℕ) a + S1x512.size a ≤ S1x1024.size a := by
  revert n; decide
theorem in8 (q : Fin 32) (g : Fin 10) : ∀ a, (![q.val, 32 * g.val, 0] : Fin 3 → ℕ) a + S1x32x128.size a ≤ S32x320x128.size a := by
  revert q g; decide
theorem in8f (q : Fin 32) : ∀ a, (![q.val, 0, 0] : Fin 3 → ℕ) a + S1x320x128.size a ≤ S32x320x128.size a := by
  revert q; decide
theorem in9 (g : Fin 10) : ∀ a, (![32 * g.val, 0] : Fin 2 → ℕ) a + S32x128.size a ≤ S320x128.size a := by
  revert g; decide
theorem in12 (b : Fin 6) (p : Fin 8) : ∀ a, (![b.val, 0, 128 * p.val] : Fin 3 → ℕ) a + S1x51x128.size a ≤ S6x51x1024.size a := by
  revert b p; decide
theorem in14 (b : Fin 6) (q : Fin 32) : ∀ a, (![b.val, 0, 128 * q.val] : Fin 3 → ℕ) a + S1x51x128.size a ≤ S6x51x4096.size a := by
  revert b q; decide
theorem in15 (b : Fin 6) : ∀ a, (![b.val, 0] : Fin 2 → ℕ) a + S1x51.size a ≤ S6x51.size a := by
  revert b; decide
theorem in17 (q : Fin 16) (g : Fin 10) : ∀ a, (![q.val, 32 * g.val, 0] : Fin 3 → ℕ) a + S1x32x128.size a ≤ S16x328x128.size a := by
  revert q g; decide
theorem in18 (n : Fin 2) : ∀ a, (![0, 512 * n.val] : Fin 2 → ℕ) a + S2048x512.size a ≤ S2048x1024.size a := by
  revert n; decide
theorem in20 (q : Fin 16) (g : Fin 10) : ∀ a, (![q.val, 32 * g.val, 0] : Fin 3 → ℕ) a + S1x32x128.size a ≤ S16x320x128.size a := by
  revert q g; decide
theorem in20f (q : Fin 16) : ∀ a, (![q.val, 0, 0] : Fin 3 → ℕ) a + S1x320x128.size a ≤ S16x320x128.size a := by
  revert q; decide
theorem in22 (b : Fin 6) (q : Fin 16) : ∀ a, (![b.val, 0, 128 * q.val] : Fin 3 → ℕ) a + S1x51x128.size a ≤ S6x51x2048.size a := by
  revert b q; decide
theorem sl256 (j : Fin 2) : S320x256.Slices ![0, 128 * j.val] S320x128 := by revert j; decide
theorem sl256w (j : Fin 2) : S1x256.Slices ![0, 128 * j.val] S1x128 := by revert j; decide
theorem sl512 (j : Fin 4) : S320x512.Slices ![0, 128 * j.val] S320x128 := by revert j; decide
theorem sl512w (j : Fin 4) : S1x512.Slices ![0, 128 * j.val] S1x128 := by revert j; decide
theorem sl51 (b : Fin 6) : S320x128.Slices ![51 * b.val, 0] S51x128 := by revert b; decide

/-! ## A row's scale, and a block of codes -/

/-- A block of rows' scales, from the lane-wise largest magnitudes of the rows. -/
def blkScale (am : FVec F S32x128 .f32) : FVec F S32x1 .f32 :=
  select (cmpf .oeq (shapeCast S32x1 (multiReduction .maximumf [1] S32 am 0xFF800000#32 reduces_S32x128_S32 (.inl rfl) rfl) shapeCasts_S32_S32x1)
      (broadcast S32x1 (Scalar.ofBits .f32 0x00000000#32)))
    (broadcast S32x1 (Scalar.ofBits .f32 0x3F800000#32))
    (divf (shapeCast S32x1 (multiReduction .maximumf [1] S32 am 0xFF800000#32 reduces_S32x128_S32 (.inl rfl) rfl) shapeCasts_S32_S32x1)
      (broadcast S32x1 (Scalar.ofBits .f32 0x43E00000#32)))

/-- The scales, one per row, as they are stored: the same in every lane. -/
def scaleStored (sc : FVec F S32x1 .f32) : FVec F S32x128 .f32 :=
  shapeCast S32x128 (broadcastTo S32x128 (shapeCast S32x1 sc shapeCasts_S32x1_S32x1) broadcasts_S32x1_S32x128) shapeCasts_S32x128_S32x128

/-- The codes of a block of values at its rows' scales. -/
def blkCodes (sc : FVec F S32x1 .f32) (y : FVec F S32x128 .f32) : FVec F S1x32x128 .fp8e4m3 :=
  shapeCast S1x32x128 (truncf .fp8e4m3
    (minimumf (broadcast S32x128 (Scalar.ofBits .f32 0x43E00000#32))
      (maximumf (broadcast S32x128 (Scalar.ofBits .f32 0xC3E00000#32))
        (mulf y (broadcastTo S32x128 (divf (broadcast S32x1 (Scalar.ofBits .f32 0x3F800000#32)) sc) broadcasts_S32x1_S32x128))))
    bitsLt_fp8e4m3_f32) shapeCasts_S32x128_S1x32x128

/-! ## The norm of a block of rows -/

section Norm
variable (X : List (View.Piece (Elt F) cc0_scratch5.ty.shape cc0_scratch5.ty.elt)) (W : Bf (F := F) c (Memref.whole cc0_scratch0))

/-- Plane `p` of the rows of block `g`. -/
def nX (p : Fin 8) (g : Fin 10) : FVec F S32x128 .f32 :=
  shapeCast S32x128 ((Memref.whole cc0_scratch5).view.readCov X (Rect.unit (s := S8x328x128) ![p.val, 32 * g.val, 0] S1x32x128.size (in5 p g)).toLoadRect)
    shapeCasts_S1x32x128_S32x128

/-- The lane-wise sums of squares of the rows of block `g`. -/
def nSsq (g : Fin 10) : FVec F S32x128 .f32 :=
  addf (addf (addf (addf (addf (addf (addf (mulf (nX X 0 g) (nX X 0 g)) (mulf (nX X 1 g) (nX X 1 g))) (mulf (nX X 2 g) (nX X 2 g))) (mulf (nX X 3 g) (nX X 3 g)))
    (mulf (nX X 4 g) (nX X 4 g))) (mulf (nX X 5 g) (nX X 5 g))) (mulf (nX X 6 g) (nX X 6 g))) (mulf (nX X 7 g) (nX X 7 g))

/-- One over the root mean square of each row of block `g`. -/
def nRinv (g : Fin 10) : FVec F S32x1 .f32 :=
  rsqrt (addf (mulf (shapeCast S32x1 (multiReduction .add [1] S32 (nSsq X g) 0x00000000#32 reduces_S32x128_S32 (.inl rfl) rfl) shapeCasts_S32_S32x1)
    (broadcast S32x1 (Scalar.ofBits .f32 0x3A800000#32))) (broadcast S32x1 (Scalar.ofBits .f32 0x358637BD#32)))

/-- Plane `p` of the norm of the rows of block `g`. -/
def nY (p : Fin 8) (g : Fin 10) : FVec F S32x128 .f32 :=
  mulf (mulf (nX X p g) (broadcastTo S32x128 (nRinv X g) broadcasts_S32x1_S32x128))
    (broadcastTo S32x128 (addf (broadcast S1x128 (Scalar.ofBits .f32 0x3F800000#32))
      (View.readAt (Elt F) (Memref.whole cc0_scratch0).view (Rect.unit (s := S1x1024) ![0, 128 * p.val] S1x128.size (in0 p)).toLoadRect W)) broadcasts_S1x128_S32x128)

/-- The lane-wise largest magnitudes of the norm of the rows of block `g`. -/
def nAm (g : Fin 10) : FVec F S32x128 .f32 :=
  maximumf (maximumf (maximumf (maximumf (maximumf (maximumf (maximumf (absf (nY X W 0 g)) (absf (nY X W 1 g))) (absf (nY X W 2 g))) (absf (nY X W 3 g)))
    (absf (nY X W 4 g))) (absf (nY X W 5 g))) (absf (nY X W 6 g))) (absf (nY X W 7 g))

/-- The stores of the norm's codes. -/
def c3L : List (View.Piece (Elt F) cc0_scratch6.ty.shape cc0_scratch6.ty.elt) :=
  lst2 10 fun g => lst 8 fun p => ⟨Rect.unit (s := S8x320x128) ![p.val, 32 * g.val, 0] S1x32x128.size (in6 p g), blkCodes (blkScale (nAm X W g)) (nY X W p g)⟩

/-- The stores of the norm's scales. -/
def s3L : List (View.Piece (Elt F) cc0_scratch7.ty.shape cc0_scratch7.ty.elt) :=
  lst 10 fun g => ⟨Rect.unit (s := S328x128) ![32 * g.val, 0] S32x128.size (in7 g), scaleStored (blkScale (nAm X W g))⟩

end Norm

/-! ## The gated products -/

section Gate
variable (lc : List (View.Piece (Elt F) cc0_scratch6.ty.shape cc0_scratch6.ty.elt)) (ls : List (View.Piece (Elt F) cc0_scratch7.ty.shape cc0_scratch7.ty.elt))
  (GU : Bf (F := F) c (Memref.whole cc0_scratch1)) (SG : Bf (F := F) c (Memref.whole cc0_scratch2))

/-- Plane `p` of the codes. -/
def c3P (p : Fin 8) : FVec F S320x128 .fp8e4m3 :=
  shapeCast S320x128 ((Memref.whole cc0_scratch6).view.readCov lc (Rect.unit (s := S8x320x128) ![p.val, 0, 0] S1x320x128.size (in6f p)).toLoadRect) shapeCasts_S1x320x128_S320x128

/-- Eight planes side by side. -/
def cat8 (x : Fin 8 → FVec F S320x128 .fp8e4m3) : FVec F S320x1024 .fp8e4m3 :=
  concatenate S320x1024 1 [⟨S320x128, x 0⟩, ⟨S320x128, x 1⟩, ⟨S320x128, x 2⟩, ⟨S320x128, x 3⟩, ⟨S320x128, x 4⟩, ⟨S320x128, x 5⟩, ⟨S320x128, x 6⟩, ⟨S320x128, x 7⟩]
    concatenates_S320x128_S320x128_S320x128_S320x128_S320x128_S320x128_S320x128_S320x128_S320x1024_d1

/-- The codes' product with column block `n` of weight `i` (0 the gate's, 1 the up projection's). -/
def gAcc (i : Fin 2) (n : Fin 16) : FVec F S320x256 .f32 :=
  matmul dot_S320x1024_S1024x256_S320x256_1_0_0_1_n_n none (cat8 (c3P lc))
    (shapeCast S1024x256 (View.readAt (Elt F) (Memref.whole cc0_scratch1).view (Rect.unit (s := S2x1024x4096) ![i.val, 0, 256 * n.val] S1x1024x256.size (in1 i n)).toLoadRect GU)
      shapeCasts_S1x1024x256_S1024x256) (constant S320x256 .f32 0x00000000#32)

/-- The rows' scales, read back. -/
def s3V : FVec F S320x128 .f32 :=
  (Memref.whole cc0_scratch7).view.readCov ls (Rect.unit (s := S328x128) ![0, 0] S320x128.size inb_S328x128_S320x128_0_0).toLoadRect

/-- Half `j` of column block `n` of product `i`, scaled by the rows and by the columns. -/
def gVal (i : Fin 2) (n : Fin 16) (j : Fin 2) : FVec F S320x128 .f32 :=
  mulf (mulf (extractStridedSlice S320x128 ![0, 128 * j.val] (gAcc lc GU i n) (sl256 j)) (s3V ls))
    (broadcastTo S320x128 (extractStridedSlice (s := S1x256) S1x128 ![0, 128 * j.val]
      (View.readAt (Elt F) (Memref.whole cc0_scratch2).view (Rect.unit (s := S2x4096) ![i.val, 256 * n.val] S1x256.size (in2 i n)).toLoadRect SG) (sl256w j))
      broadcasts_S1x128_S320x128)

/-- The tanh form of the GELU. -/
def geluV (g : FVec F S320x128 .f32) : FVec F S320x128 .f32 :=
  mulf (mulf (broadcast S320x128 (Scalar.ofBits .f32 0x3F000000#32)) g)
    (addf (broadcast S320x128 (Scalar.ofBits .f32 0x3F800000#32))
      (tanh (mulf (broadcast S320x128 (Scalar.ofBits .f32 0x3F4C422A#32))
        (addf g (mulf (broadcast S320x128 (Scalar.ofBits .f32 0x3D372713#32)) (mulf (mulf g g) g))))))

/-- The hidden values of half `j` of column block `n`. -/
def hidV (n : Fin 16) (j : Fin 2) : FVec F S320x128 .f32 :=
  mulf (geluV (gVal lc ls GU SG 0 n j)) (gVal lc ls GU SG 1 n j)

/-- The plane half `j` of column block `n` goes to. -/
def plane (n : Fin 16) (j : Fin 2) : Fin 32 := ⟨2 * n.val + j.val, by omega⟩

/-- The stores of the hidden values. -/
def hidL : List (View.Piece (Elt F) cc0_scratch8.ty.shape cc0_scratch8.ty.elt) :=
  lst2 16 fun n => lst 2 fun j =>
    ⟨Rect.unit (s := S32x320x128) ![(plane n j).val, 0, 0] S1x320x128.size (in8f (plane n j)), shapeCast S1x320x128 (hidV lc ls GU SG n j) shapeCasts_S320x128_S1x320x128⟩

/-- The stores of the running lane-wise largest magnitudes, after `n` column blocks. -/
def amL : (n : ℕ) → n ≤ 16 → List (View.Piece (Elt F) cc0_scratch9.ty.shape cc0_scratch9.ty.elt)
  | 0, _ => [⟨Rect.unit (s := S320x128) ![0, 0] S320x128.size inb_S320x128_S320x128_0_0,
      shapeCast S320x128 (broadcast S320x128 (Scalar.ofBits .f32 0x00000000#32)) shapeCasts_S320x128_S320x128⟩]
  | n + 1, h =>
    ⟨Rect.unit (s := S320x128) ![0, 0] S320x128.size inb_S320x128_S320x128_0_0,
      shapeCast S320x128 (maximumf (maximumf
        ((Memref.whole cc0_scratch9).view.readCov (amL n (by omega)) (Rect.unit (s := S320x128) ![0, 0] S320x128.size inb_S320x128_S320x128_0_0).toLoadRect)
        (absf (hidV lc ls GU SG ⟨n, by omega⟩ 0))) (absf (hidV lc ls GU SG ⟨n, by omega⟩ 1))) shapeCasts_S320x128_S320x128⟩ :: amL n (by omega)

end Gate

/-! ## The hidden values' codes, and the down product -/

section Down
variable (lh : List (View.Piece (Elt F) cc0_scratch8.ty.shape cc0_scratch8.ty.elt)) (la : List (View.Piece (Elt F) cc0_scratch9.ty.shape cc0_scratch9.ty.elt))

/-- The scales of the hidden rows of block `g`. -/
def hScale (g : Fin 10) : FVec F S32x1 .f32 :=
  blkScale ((Memref.whole cc0_scratch9).view.readCov la (Rect.unit (s := S320x128) ![32 * g.val, 0] S32x128.size (in9 g)).toLoadRect)

/-- Plane `q` of the hidden rows of block `g`. -/
def hB (q : Fin 32) (g : Fin 10) : FVec F S32x128 .f32 :=
  shapeCast S32x128 ((Memref.whole cc0_scratch8).view.readCov lh (Rect.unit (s := S32x320x128) ![q.val, 32 * g.val, 0] S1x32x128.size (in8 q g)).toLoadRect) shapeCasts_S1x32x128_S32x128

/-- The stores of the hidden values' codes. -/
def c4L : List (View.Piece (Elt F) cc0_scratch10.ty.shape cc0_scratch10.ty.elt) :=
  lst2 10 fun g => lst 32 fun q => ⟨Rect.unit (s := S32x320x128) ![q.val, 32 * g.val, 0] S1x32x128.size (in8 q g), blkCodes (hScale la g) (hB lh q g)⟩

/-- The stores of the hidden rows' scales. -/
def s4L : List (View.Piece (Elt F) cc0_scratch11.ty.shape cc0_scratch11.ty.elt) :=
  lst 10 fun g => ⟨Rect.unit (s := S328x128) ![32 * g.val, 0] S32x128.size (in7 g), scaleStored (hScale la g)⟩

variable (lc : List (View.Piece (Elt F) cc0_scratch10.ty.shape cc0_scratch10.ty.elt)) (ls : List (View.Piece (Elt F) cc0_scratch11.ty.shape cc0_scratch11.ty.elt))
  (DN : Bf (F := F) c (Memref.whole cc0_scratch3)) (SD : Bf (F := F) c (Memref.whole cc0_scratch4))

/-- Plane `q` of the hidden values' codes. -/
def c4P (q : Fin 32) : FVec F S320x128 .fp8e4m3 :=
  shapeCast S320x128 ((Memref.whole cc0_scratch10).view.readCov lc (Rect.unit (s := S32x320x128) ![q.val, 0, 0] S1x320x128.size (in8f q)).toLoadRect) shapeCasts_S1x320x128_S320x128

/-- Thirty-two planes side by side. -/
def cat32 (x : Fin 32 → FVec F S320x128 .fp8e4m3) : FVec F S320x4096 .fp8e4m3 :=
  concatenate S320x4096 1 [
    ⟨S320x128, x 0⟩, ⟨S320x128, x 1⟩, ⟨S320x128, x 2⟩, ⟨S320x128, x 3⟩,
    ⟨S320x128, x 4⟩, ⟨S320x128, x 5⟩, ⟨S320x128, x 6⟩, ⟨S320x128, x 7⟩,
    ⟨S320x128, x 8⟩, ⟨S320x128, x 9⟩, ⟨S320x128, x 10⟩, ⟨S320x128, x 11⟩,
    ⟨S320x128, x 12⟩, ⟨S320x128, x 13⟩, ⟨S320x128, x 14⟩, ⟨S320x128, x 15⟩,
    ⟨S320x128, x 16⟩, ⟨S320x128, x 17⟩, ⟨S320x128, x 18⟩, ⟨S320x128, x 19⟩,
    ⟨S320x128, x 20⟩, ⟨S320x128, x 21⟩, ⟨S320x128, x 22⟩, ⟨S320x128, x 23⟩,
    ⟨S320x128, x 24⟩, ⟨S320x128, x 25⟩, ⟨S320x128, x 26⟩, ⟨S320x128, x 27⟩,
    ⟨S320x128, x 28⟩, ⟨S320x128, x 29⟩, ⟨S320x128, x 30⟩, ⟨S320x128, x 31⟩]
    concatenates_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x4096_d1

/-- The hidden codes' product with column block `n` of the down weight. -/
def dAcc (n : Fin 2) : FVec F S320x512 .f32 :=
  matmul dot_S320x4096_S4096x512_S320x512_1_0_0_1_n_n none (cat32 (c4P lc))
    (View.readAt (Elt F) (Memref.whole cc0_scratch3).view (Rect.unit (s := S4096x1024) ![0, 512 * n.val] S4096x512.size (in3 n)).toLoadRect DN) (constant S320x512 .f32 0x00000000#32)

/-- The hidden rows' scales, read back. -/
def s4V : FVec F S320x128 .f32 :=
  (Memref.whole cc0_scratch11).view.readCov ls (Rect.unit (s := S328x128) ![0, 0] S320x128.size inb_S328x128_S320x128_0_0).toLoadRect

/-- The down weight's scales of column block `n`. -/
def sdV (n : Fin 2) : FVec F S1x512 .f32 :=
  View.readAt (Elt F) (Memref.whole cc0_scratch4).view (Rect.unit (s := S1x1024) ![0, 512 * n.val] S1x512.size (in4 n)).toLoadRect SD

end Down

/-! ## A scaled product added into the residual -/

/-- Quarter `j` of a column block: the residual's plane plus the scaled product. -/
def outV (v : FVec F S320x128 .f32) (acc : FVec F S320x512 .f32) (s : FVec F S320x128 .f32) (u : FVec F S1x512 .f32) (j : Fin 4) : FVec F S320x128 .f32 :=
  addf v (mulf (mulf (extractStridedSlice S320x128 ![0, 128 * j.val] acc (sl512 j)) s)
    (broadcastTo S320x128 (extractStridedSlice (s := S1x512) S1x128 ![0, 128 * j.val] u (sl512w j)) broadcasts_S1x128_S320x128))

/-- The plane quarter `j` of column block `n` goes to. -/
def oplane (n : Fin 2) (j : Fin 4) : Fin 8 := ⟨4 * n.val + j.val, by omega⟩

/-- The stores of the new residual. -/
def outL (v : Fin 8 → FVec F S320x128 .f32) (acc : Fin 2 → FVec F S320x512 .f32) (s : FVec F S320x128 .f32) (u : Fin 2 → FVec F S1x512 .f32) :
    List (View.Piece (Elt F) cc0_scratch5.ty.shape cc0_scratch5.ty.elt) :=
  lst2 2 fun n => lst 4 fun j => ⟨Rect.unit (s := S8x328x128) ![(oplane n j).val, 0, 0] S1x320x128.size (in5f (oplane n j)),
    shapeCast S1x320x128 (outV (v (oplane n j)) (acc n) s (u n) j) shapeCasts_S320x128_S1x320x128⟩

/-- Plane `p` of the residual as it came in. -/
def xP (X : Bf (F := F) c (Memref.whole cc0_scratch5)) (p : Fin 8) : FVec F S320x128 .f32 :=
  shapeCast S320x128 (View.readAt (Elt F) (Memref.whole cc0_scratch5).view (Rect.unit (s := S8x328x128) ![p.val, 0, 0] S1x320x128.size (in5f p)).toLoadRect X) shapeCasts_S1x320x128_S320x128

/-- Plane `p` of the residual, read back. -/
def hP (lo : List (View.Piece (Elt F) cc0_scratch5.ty.shape cc0_scratch5.ty.elt)) (p : Fin 8) : FVec F S320x128 .f32 :=
  shapeCast S320x128 ((Memref.whole cc0_scratch5).view.readCov lo (Rect.unit (s := S8x328x128) ![p.val, 0, 0] S1x320x128.size (in5f p)).toLoadRect) shapeCasts_S1x320x128_S320x128

/-! ## The attention output's codes, and the output product -/

section Out
variable (O : Bf (F := F) c (Memref.whole cc0_scratch17))

/-- Plane `q` of the rows of block `g`. -/
def oB (q : Fin 16) (g : Fin 10) : FVec F S32x128 .f32 :=
  shapeCast S32x128 (View.readAt (Elt F) (Memref.whole cc0_scratch17).view (Rect.unit (s := S16x328x128) ![q.val, 32 * g.val, 0] S1x32x128.size (in17 q g)).toLoadRect O) shapeCasts_S1x32x128_S32x128

/-- The lane-wise largest magnitudes of the rows of block `g`. -/
def oAm (g : Fin 10) : FVec F S32x128 .f32 :=
  maximumf (maximumf (maximumf (maximumf (maximumf (maximumf (maximumf (maximumf (maximumf (maximumf (maximumf (maximumf (maximumf (maximumf (maximumf (absf (oB O 0 g)) (absf (oB O 1 g))) (absf (oB O 2 g))) (absf (oB O 3 g))) (absf (oB O 4 g))) (absf (oB O 5 g))) (absf (oB O 6 g))) (absf (oB O 7 g))) (absf (oB O 8 g))) (absf (oB O 9 g))) (absf (oB O 10 g))) (absf (oB O 11 g))) (absf (oB O 12 g))) (absf (oB O 13 g))) (absf (oB O 14 g))) (absf (oB O 15 g))

/-- The stores of the codes. -/
def c2L : List (View.Piece (Elt F) cc0_scratch20.ty.shape cc0_scratch20.ty.elt) :=
  lst2 10 fun g => lst 16 fun q => ⟨Rect.unit (s := S16x320x128) ![q.val, 32 * g.val, 0] S1x32x128.size (in20 q g), blkCodes (blkScale (oAm O g)) (oB O q g)⟩

/-- The stores of the scales. -/
def s2L : List (View.Piece (Elt F) cc0_scratch21.ty.shape cc0_scratch21.ty.elt) :=
  lst 10 fun g => ⟨Rect.unit (s := S328x128) ![32 * g.val, 0] S32x128.size (in7 g), scaleStored (blkScale (oAm O g))⟩

variable (lc : List (View.Piece (Elt F) cc0_scratch20.ty.shape cc0_scratch20.ty.elt)) (ls : List (View.Piece (Elt F) cc0_scratch21.ty.shape cc0_scratch21.ty.elt))
  (WO : Bf (F := F) c (Memref.whole cc0_scratch18)) (SO : Bf (F := F) c (Memref.whole cc0_scratch19))

/-- Plane `q` of the codes. -/
def c2P (q : Fin 16) : FVec F S320x128 .fp8e4m3 :=
  shapeCast S320x128 ((Memref.whole cc0_scratch20).view.readCov lc (Rect.unit (s := S16x320x128) ![q.val, 0, 0] S1x320x128.size (in20f q)).toLoadRect) shapeCasts_S1x320x128_S320x128

/-- Sixteen planes side by side. -/
def cat16 (x : Fin 16 → FVec F S320x128 .fp8e4m3) : FVec F S320x2048 .fp8e4m3 :=
  concatenate S320x2048 1 [
    ⟨S320x128, x 0⟩, ⟨S320x128, x 1⟩, ⟨S320x128, x 2⟩, ⟨S320x128, x 3⟩,
    ⟨S320x128, x 4⟩, ⟨S320x128, x 5⟩, ⟨S320x128, x 6⟩, ⟨S320x128, x 7⟩,
    ⟨S320x128, x 8⟩, ⟨S320x128, x 9⟩, ⟨S320x128, x 10⟩, ⟨S320x128, x 11⟩,
    ⟨S320x128, x 12⟩, ⟨S320x128, x 13⟩, ⟨S320x128, x 14⟩, ⟨S320x128, x 15⟩]
    concatenates_S320x128_S320x128_S320x128_S320x128_S320x128_S320x128_S320x128_S320x128_S320x128_S320x128_S320x128_S320x128_S320x128_S320x128_S320x128_S320x128_S320x2048_d1

/-- The codes' product with column block `n` of the output weight. -/
def pAcc (n : Fin 2) : FVec F S320x512 .f32 :=
  matmul dot_S320x2048_S2048x512_S320x512_1_0_0_1_n_n none (cat16 (c2P lc))
    (View.readAt (Elt F) (Memref.whole cc0_scratch18).view (Rect.unit (s := S2048x1024) ![0, 512 * n.val] S2048x512.size (in18 n)).toLoadRect WO) (constant S320x512 .f32 0x00000000#32)

/-- The rows' scales, read back. -/
def s2V : FVec F S320x128 .f32 :=
  (Memref.whole cc0_scratch21).view.readCov ls (Rect.unit (s := S328x128) ![0, 0] S320x128.size inb_S328x128_S320x128_0_0).toLoadRect

/-- The output weight's scales of column block `n`. -/
def soV (n : Fin 2) : FVec F S1x512 .f32 :=
  View.readAt (Elt F) (Memref.whole cc0_scratch19).view (Rect.unit (s := S1x1024) ![0, 512 * n.val] S1x512.size (in4 n)).toLoadRect SO

end Out

/-! ## The results' staging buffers -/

/-- Rows of `b` of a plane. -/
def rowsOf (b : Fin 6) (x : FVec F S320x128 .fp8e4m3) : FVec F S1x51x128 .fp8e4m3 :=
  shapeCast S1x51x128 (extractStridedSlice S51x128 ![51 * b.val, 0] x (sl51 b)) shapeCasts_S51x128_S1x51x128

/-- The stores of the residual. -/
def hstL (lo : List (View.Piece (Elt F) cc0_scratch5.ty.shape cc0_scratch5.ty.elt)) : List (View.Piece (Elt F) cc0_scratch12.ty.shape cc0_scratch12.ty.elt) :=
  lst2 6 fun b => lst 8 fun p => ⟨Rect.unit (s := S6x51x1024) ![b.val, 0, 128 * p.val] S1x51x128.size (in12 b p),
    shapeCast S1x51x128 (shapeCast S51x128 ((Memref.whole cc0_scratch5).view.readCov lo (Rect.unit (s := S8x328x128) ![p.val, 51 * b.val, 0] S1x51x128.size (in5s p b)).toLoadRect)
      shapeCasts_S1x51x128_S51x128) shapeCasts_S51x128_S1x51x128⟩

/-- The stores of the norm's codes. -/
def c3stL (lc : List (View.Piece (Elt F) cc0_scratch6.ty.shape cc0_scratch6.ty.elt)) : List (View.Piece (Elt F) cc0_scratch13.ty.shape cc0_scratch13.ty.elt) :=
  lst2 6 fun b => lst 8 fun p => ⟨Rect.unit (s := S6x51x1024) ![b.val, 0, 128 * p.val] S1x51x128.size (in12 b p), rowsOf b (c3P lc p)⟩

/-- The stores of the hidden values' codes. -/
def c4stL (lc : List (View.Piece (Elt F) cc0_scratch10.ty.shape cc0_scratch10.ty.elt)) : List (View.Piece (Elt F) cc0_scratch14.ty.shape cc0_scratch14.ty.elt) :=
  lst2 6 fun b => lst 32 fun q => ⟨Rect.unit (s := S6x51x4096) ![b.val, 0, 128 * q.val] S1x51x128.size (in14 b q), rowsOf b (c4P lc q)⟩

/-- The stores of the attention output's codes. -/
def c2stL (lc : List (View.Piece (Elt F) cc0_scratch20.ty.shape cc0_scratch20.ty.elt)) : List (View.Piece (Elt F) cc0_scratch22.ty.shape cc0_scratch22.ty.elt) :=
  lst2 6 fun b => lst 16 fun q => ⟨Rect.unit (s := S6x51x2048) ![b.val, 0, 128 * q.val] S1x51x128.size (in22 b q), rowsOf b (c2P lc q)⟩

/-- The scales of fifty-six rows, the same in every lane, turned onto the lanes of one row. -/
def turn (x : FVec F S56x128 .f32) : FVec F S1x51 .f32 :=
  shapeCast S1x51 (extractStridedSlice S1x51 ![0, 0] (shapeCast S1x128 (multiReduction .add [0] S128
    (select (cmpi .eq (iota .tc S56x128 32 [0] iota_S56x128_d0_w32) (iota .tc S56x128 32 [1] iota_S56x128_d1_w32)) x
      (broadcast S56x128 (Scalar.ofBits .f32 0x00000000#32))) 0x00000000#32 reduces_S56x128_S128 (.inl rfl) rfl) shapeCasts_S128_S1x128)
    slices_S1x128_o0_0_S1x51) shapeCasts_S1x51_S1x51

/-- The stores of the norm's scales. -/
def s3stL (ls : List (View.Piece (Elt F) cc0_scratch7.ty.shape cc0_scratch7.ty.elt)) : List (View.Piece (Elt F) cc0_scratch15.ty.shape cc0_scratch15.ty.elt) :=
  lst 6 fun b => ⟨Rect.unit (s := S6x51) ![b.val, 0] S1x51.size (in15 b),
    turn ((Memref.whole cc0_scratch7).view.readCov ls (Rect.unit (s := S328x128) ![51 * b.val, 0] S56x128.size (in7s b)).toLoadRect)⟩

/-- The stores of the attention output's scales. -/
def s2stL (ls : List (View.Piece (Elt F) cc0_scratch21.ty.shape cc0_scratch21.ty.elt)) : List (View.Piece (Elt F) cc0_scratch23.ty.shape cc0_scratch23.ty.elt) :=
  lst 6 fun b => ⟨Rect.unit (s := S6x51) ![b.val, 0] S1x51.size (in15 b),
    turn ((Memref.whole cc0_scratch21).view.readCov ls (Rect.unit (s := S328x128) ![51 * b.val, 0] S56x128.size (in7s b)).toLoadRect)⟩

/-- The stores of the hidden rows' scales. -/
def s4stL (ls : List (View.Piece (Elt F) cc0_scratch11.ty.shape cc0_scratch11.ty.elt)) : List (View.Piece (Elt F) cc0_scratch16.ty.shape cc0_scratch16.ty.elt) :=
  lst 6 fun b => ⟨Rect.unit (s := S6x51) ![b.val, 0] S1x51.size (in15 b),
    turn ((Memref.whole cc0_scratch11).view.readCov ls (Rect.unit (s := S328x128) ![51 * b.val, 0] S56x128.size (in7s b)).toLoadRect)⟩

end Cert.KernelIdeal.Hand
-- ==== Proof.Reads.lean ====
module

public import Idealize.ShloMosaic.Lib.Pointwise
public import Idealize.ShloMosaic.Lib.Writes
public import Idealize.ShloMosaic.Lib.Exec

/-!
# Loads of a box, index by index

A load of a box at an offset reads the buffer at the index plus the offset. A load after a list of stores that agree
with one function of the buffer's indices, and that cover what is loaded, reads that function.
-/

@[expose] public section

noncomputable section

namespace Cert.Ffn

open Idealize.ShloMosaic

variable {Val : EltTy → Type} {sig : RefSig} {κ : Kind} {sp : Space} {e : EltTy}

/-- A load of a rank-3 box at an index. -/
theorem readAt_ix3 {n0 n1 n2 m0 m1 m2 a b d : ℕ} (v : View sig κ sp ⟨3, ![n0, n1, n2]⟩ e) (f : v.ty.Contents Val)
    (h : ∀ x, (![a, b, d] : Fin 3 → ℕ) x + (![m0, m1, m2] : Fin 3 → ℕ) x ≤ (![n0, n1, n2] : Fin 3 → ℕ) x) (i : Fin m0) (j : Fin m1) (k : Fin m2)
    (y0 : Fin n0) (y1 : Fin n1) (y2 : Fin n2) (h0 : y0.val = a + i.val) (h1 : y1.val = b + j.val) (h2 : y2.val = d + k.val) :
    v.readAt Val (Rect.unit (s := ⟨3, ![n0, n1, n2]⟩) ![a, b, d] ![m0, m1, m2] h).toLoadRect f (ix3 i j k) = v.read Val f (ix3 y0 y1 y2) := by
  rw [View.readAt_apply]
  refine congrArg (v.read Val f) (funext fun x => Fin.ext ?_)
  match x with
  | ⟨0, _⟩ => show a + 1 * i.val = y0.val; omega
  | ⟨1, _⟩ => show b + 1 * j.val = y1.val; omega
  | ⟨2, _⟩ => show d + 1 * k.val = y2.val; omega

/-- A load of a rank-2 box at an index. -/
theorem readAt_ix2 {n0 n1 m0 m1 a b : ℕ} (v : View sig κ sp ⟨2, ![n0, n1]⟩ e) (f : v.ty.Contents Val)
    (h : ∀ x, (![a, b] : Fin 2 → ℕ) x + (![m0, m1] : Fin 2 → ℕ) x ≤ (![n0, n1] : Fin 2 → ℕ) x) (i : Fin m0) (j : Fin m1)
    (y0 : Fin n0) (y1 : Fin n1) (h0 : y0.val = a + i.val) (h1 : y1.val = b + j.val) :
    v.readAt Val (Rect.unit (s := ⟨2, ![n0, n1]⟩) ![a, b] ![m0, m1] h).toLoadRect f (ix2 i j) = v.read Val f (ix2 y0 y1) := by
  rw [View.readAt_apply]
  refine congrArg (v.read Val f) (funext fun x => Fin.ext ?_)
  match x with
  | ⟨0, _⟩ => show a + 1 * i.val = y0.val; omega
  | ⟨1, _⟩ => show b + 1 * j.val = y1.val; omega

/-- A rank-3 store agrees with a function of the buffer's indices. -/
theorem piece_ix3 {n0 n1 n2 m0 m1 m2 a b d : ℕ} (G : Fin n0 → Fin n1 → Fin n2 → Val e)
    (h : ∀ x, (![a, b, d] : Fin 3 → ℕ) x + (![m0, m1, m2] : Fin 3 → ℕ) x ≤ (![n0, n1, n2] : Fin 3 → ℕ) x)
    (w : (⟨3, ![m0, m1, m2]⟩ : Shape).Idx → Val e)
    (hw : ∀ (i : Fin m0) (j : Fin m1) (k : Fin m2) (y0 : Fin n0) (y1 : Fin n1) (y2 : Fin n2),
      y0.val = a + i.val → y1.val = b + j.val → y2.val = d + k.val → w (ix3 i j k) = G y0 y1 y2)
    (x : (⟨3, ![m0, m1, m2]⟩ : Shape).Idx) :
    w x = (fun y : (⟨3, ![n0, n1, n2]⟩ : Shape).Idx => G (y 0) (y 1) (y 2)) ((Rect.unit (s := ⟨3, ![n0, n1, n2]⟩) ![a, b, d] ![m0, m1, m2] h).emb x) := by
  rw [eq_ix3 x]
  refine hw (x 0) (x 1) (x 2) _ _ _ ?_ ?_ ?_
  · show a + 1 * (x 0).val = _; rw [Nat.one_mul]
  · show b + 1 * (x 1).val = _; rw [Nat.one_mul]
  · show d + 1 * (x 2).val = _; rw [Nat.one_mul]

/-- A rank-2 store agrees with a function of the buffer's indices. -/
theorem piece_ix2 {n0 n1 m0 m1 a b : ℕ} (G : Fin n0 → Fin n1 → Val e)
    (h : ∀ x, (![a, b] : Fin 2 → ℕ) x + (![m0, m1] : Fin 2 → ℕ) x ≤ (![n0, n1] : Fin 2 → ℕ) x)
    (w : (⟨2, ![m0, m1]⟩ : Shape).Idx → Val e)
    (hw : ∀ (i : Fin m0) (j : Fin m1) (y0 : Fin n0) (y1 : Fin n1), y0.val = a + i.val → y1.val = b + j.val → w (ix2 i j) = G y0 y1)
    (x : (⟨2, ![m0, m1]⟩ : Shape).Idx) :
    w x = (fun y : (⟨2, ![n0, n1]⟩ : Shape).Idx => G (y 0) (y 1)) ((Rect.unit (s := ⟨2, ![n0, n1]⟩) ![a, b] ![m0, m1] h).emb x) := by
  rw [eq_ix2 x]
  refine hw (x 0) (x 1) _ _ ?_ ?_
  · show a + 1 * (x 0).val = _; rw [Nat.one_mul]
  · show b + 1 * (x 1).val = _; rw [Nat.one_mul]

/-- A rank-3 index lies in a box. -/
theorem mem_ix3 {n0 n1 n2 m0 m1 m2 a b d : ℕ} (h : ∀ x, (![a, b, d] : Fin 3 → ℕ) x + (![m0, m1, m2] : Fin 3 → ℕ) x ≤ (![n0, n1, n2] : Fin 3 → ℕ) x)
    (y0 : Fin n0) (y1 : Fin n1) (y2 : Fin n2) (h0 : a ≤ y0.val ∧ y0.val < a + m0) (h1 : b ≤ y1.val ∧ y1.val < b + m1) (h2 : d ≤ y2.val ∧ y2.val < d + m2) :
    ix3 y0 y1 y2 ∈ (Rect.unit (s := ⟨3, ![n0, n1, n2]⟩) ![a, b, d] ![m0, m1, m2] h).set := by
  rw [Rect.mem_set_unit]
  intro x
  match x with
  | ⟨0, _⟩ => exact h0
  | ⟨1, _⟩ => exact h1
  | ⟨2, _⟩ => exact h2

/-- A rank-2 index lies in a box. -/
theorem mem_ix2 {n0 n1 m0 m1 a b : ℕ} (h : ∀ x, (![a, b] : Fin 2 → ℕ) x + (![m0, m1] : Fin 2 → ℕ) x ≤ (![n0, n1] : Fin 2 → ℕ) x)
    (y0 : Fin n0) (y1 : Fin n1) (h0 : a ≤ y0.val ∧ y0.val < a + m0) (h1 : b ≤ y1.val ∧ y1.val < b + m1) :
    ix2 y0 y1 ∈ (Rect.unit (s := ⟨2, ![n0, n1]⟩) ![a, b] ![m0, m1] h).set := by
  rw [Rect.mem_set_unit]
  intro x
  match x with
  | ⟨0, _⟩ => exact h0
  | ⟨1, _⟩ => exact h1

variable [∀ e, Nonempty (Val e)]

/-- A rank-3 load after stores that agree with `G` and cover it reads `G`. -/
theorem readCov_ix3 {n0 n1 n2 m0 m1 m2 a b d : ℕ} (v : View sig κ sp ⟨3, ![n0, n1, n2]⟩ e) (L : List (View.Piece Val ⟨3, ![n0, n1, n2]⟩ e))
    (G : Fin n0 → Fin n1 → Fin n2 → Val e) (hG : ∀ p ∈ L, ∀ x : p.1.shape.Idx, p.2 x = (fun y => G (y 0) (y 1) (y 2)) (p.1.emb x))
    (h : ∀ x, (![a, b, d] : Fin 3 → ℕ) x + (![m0, m1, m2] : Fin 3 → ℕ) x ≤ (![n0, n1, n2] : Fin 3 → ℕ) x) (i : Fin m0) (j : Fin m1) (k : Fin m2)
    (y0 : Fin n0) (y1 : Fin n1) (y2 : Fin n2) (hc : ∃ p ∈ L, ix3 y0 y1 y2 ∈ p.1.set)
    (h0 : y0.val = a + i.val) (h1 : y1.val = b + j.val) (h2 : y2.val = d + k.val) :
    v.readCov L (Rect.unit (s := ⟨3, ![n0, n1, n2]⟩) ![a, b, d] ![m0, m1, m2] h).toLoadRect (ix3 i j k) = G y0 y1 y2 := by
  unfold View.readCov
  rw [readAt_ix3 v _ h i j k y0 y1 y2 h0 h1 h2]
  exact View.read_writes_apply_of_pieces v _ (fun y => G (y 0) (y 1) (y 2)) L hG (ix3 y0 y1 y2) hc

/-- So it does when other stores came before those. -/
theorem readCov_ix3_append {n0 n1 n2 m0 m1 m2 a b d : ℕ} (v : View sig κ sp ⟨3, ![n0, n1, n2]⟩ e) (L L0 : List (View.Piece Val ⟨3, ![n0, n1, n2]⟩ e))
    (G : Fin n0 → Fin n1 → Fin n2 → Val e) (hG : ∀ p ∈ L, ∀ x : p.1.shape.Idx, p.2 x = (fun y => G (y 0) (y 1) (y 2)) (p.1.emb x))
    (h : ∀ x, (![a, b, d] : Fin 3 → ℕ) x + (![m0, m1, m2] : Fin 3 → ℕ) x ≤ (![n0, n1, n2] : Fin 3 → ℕ) x) (i : Fin m0) (j : Fin m1) (k : Fin m2)
    (y0 : Fin n0) (y1 : Fin n1) (y2 : Fin n2) (hc : ∃ p ∈ L, ix3 y0 y1 y2 ∈ p.1.set)
    (h0 : y0.val = a + i.val) (h1 : y1.val = b + j.val) (h2 : y2.val = d + k.val) :
    v.readCov (L ++ L0) (Rect.unit (s := ⟨3, ![n0, n1, n2]⟩) ![a, b, d] ![m0, m1, m2] h).toLoadRect (ix3 i j k) = G y0 y1 y2 := by
  unfold View.readCov
  rw [readAt_ix3 v _ h i j k y0 y1 y2 h0 h1 h2, View.writes_append]
  exact View.read_writes_apply_of_pieces v _ (fun y => G (y 0) (y 1) (y 2)) L hG (ix3 y0 y1 y2) hc

/-- A rank-2 load after stores that agree with `G` and cover it reads `G`. -/
theorem readCov_ix2 {n0 n1 m0 m1 a b : ℕ} (v : View sig κ sp ⟨2, ![n0, n1]⟩ e) (L : List (View.Piece Val ⟨2, ![n0, n1]⟩ e))
    (G : Fin n0 → Fin n1 → Val e) (hG : ∀ p ∈ L, ∀ x : p.1.shape.Idx, p.2 x = (fun y => G (y 0) (y 1)) (p.1.emb x))
    (h : ∀ x, (![a, b] : Fin 2 → ℕ) x + (![m0, m1] : Fin 2 → ℕ) x ≤ (![n0, n1] : Fin 2 → ℕ) x) (i : Fin m0) (j : Fin m1)
    (y0 : Fin n0) (y1 : Fin n1) (hc : ∃ p ∈ L, ix2 y0 y1 ∈ p.1.set) (h0 : y0.val = a + i.val) (h1 : y1.val = b + j.val) :
    v.readCov L (Rect.unit (s := ⟨2, ![n0, n1]⟩) ![a, b] ![m0, m1] h).toLoadRect (ix2 i j) = G y0 y1 := by
  unfold View.readCov
  rw [readAt_ix2 v _ h i j y0 y1 h0 h1]
  exact View.read_writes_apply_of_pieces v _ (fun y => G (y 0) (y 1)) L hG (ix2 y0 y1) hc

end Cert.Ffn
-- ==== Proof.Spec.lean ====
module

public import Idealize.ShloMosaic.Lib.Pointwise

/-!
# The feed-forward half of the layer, one row at a time

One row of the residual is normed, quantised, multiplied with the gate and up weights, gated, quantised again, multiplied
with the down weight and added to the residual. All values are extended reals; the named constants are the f32 words of
the program.
-/

@[expose] public section

noncomputable section

namespace Cert.Ffn

open Idealize.ShloMosaic

/-- One over the model width. -/
abbrev recipD : EReal := Ideal.ofBits .f32 0x3A800000#32
/-- The norm's epsilon. -/
abbrev eps : EReal := Ideal.ofBits .f32 0x358637BD#32
/-- The largest code. -/
abbrev cMax : EReal := Ideal.ofBits .f32 0x43E00000#32
/-- The smallest code. -/
abbrev cMin : EReal := Ideal.ofBits .f32 0xC3E00000#32
abbrev half : EReal := Ideal.ofBits .f32 0x3F000000#32
/-- The factor inside the GELU's tanh. -/
abbrev gC : EReal := Ideal.ofBits .f32 0x3F4C422A#32
/-- The factor of the GELU's cube. -/
abbrev gCube : EReal := Ideal.ofBits .f32 0x3D372713#32
/-- The start of a maximum. -/
abbrev negInf : EReal := Ideal.ofBits .f32 0xFF800000#32

/-- The magnitude. -/
def mag (x : EReal) : EReal := max x (-x)

/-- The largest magnitude of a row. -/
def amax {n : ℕ} (f : Fin n → EReal) : EReal := Finset.univ.fold max negInf fun k => mag (f k)

/-- A row's scale, from its largest magnitude. -/
def scale (a : EReal) : EReal := if a = 0 then 1 else Ideal.div a cMax

/-- A value's code at a scale. -/
def code (s v : EReal) : EReal := min cMax (max cMin (v * Ideal.div 1 s))

/-- One over a row's root mean square. -/
def rinv (x : Fin 1024 → EReal) : EReal := Ideal.rsqrt ((∑ k, x k * x k) * recipD + eps)

/-- The norm of a row. -/
def normed (x w : Fin 1024 → EReal) (k : Fin 1024) : EReal := x k * rinv x * (1 + w k)

/-- The tanh form of the GELU. -/
def gelu (g : EReal) : EReal := half * g * (1 + Ideal.tanh (gC * (g + gCube * (g * g * g))))

/-- Column `j` of a row of codes times a weight, scaled by the row's scale and the column's. -/
def proj {n m : ℕ} (c : Fin n → EReal) (s : EReal) (W : Fin n → Fin m → EReal) (sw : Fin m → EReal) (j : Fin m) : EReal :=
  (∑ k, c k * W k j) * s * sw j

/-- A row's own scale. -/
def qs {n : ℕ} (o : Fin n → EReal) : EReal := scale (amax o)
/-- A row's codes at its own scale. -/
def qc {n : ℕ} (o : Fin n → EReal) (k : Fin n) : EReal := code (qs o) (o k)
/-- The residual after the output product. -/
def mid {n : ℕ} (x : Fin 1024 → EReal) (o : Fin n → EReal) (wo : Fin n → Fin 1024 → EReal) (so : Fin 1024 → EReal) (k : Fin 1024) : EReal :=
  x k + proj (qc o) (qs o) wo so k

/-- The norm's scale. -/
def s3 (x w : Fin 1024 → EReal) : EReal := scale (amax (normed x w))
/-- The norm's codes. -/
def c3 (x w : Fin 1024 → EReal) (k : Fin 1024) : EReal := code (s3 x w) (normed x w k)

/-- The hidden values. -/
def hid (x w : Fin 1024 → EReal) (gu : Fin 2 → Fin 1024 → Fin 4096 → EReal) (sg : Fin 2 → Fin 4096 → EReal) (j : Fin 4096) : EReal :=
  gelu (proj (c3 x w) (s3 x w) (gu 0) (sg 0) j) * proj (c3 x w) (s3 x w) (gu 1) (sg 1) j

/-- The hidden values' scale. -/
def s4 (x w : Fin 1024 → EReal) (gu : Fin 2 → Fin 1024 → Fin 4096 → EReal) (sg : Fin 2 → Fin 4096 → EReal) : EReal :=
  scale (amax (hid x w gu sg))
/-- The hidden values' codes. -/
def c4 (x w : Fin 1024 → EReal) (gu : Fin 2 → Fin 1024 → Fin 4096 → EReal) (sg : Fin 2 → Fin 4096 → EReal) (j : Fin 4096) : EReal :=
  code (s4 x w gu sg) (hid x w gu sg j)

/-- The new residual. -/
def res (x w : Fin 1024 → EReal) (gu : Fin 2 → Fin 1024 → Fin 4096 → EReal) (sg : Fin 2 → Fin 4096 → EReal)
    (dn : Fin 4096 → Fin 1024 → EReal) (sd : Fin 1024 → EReal) (k : Fin 1024) : EReal :=
  x k + proj (c4 x w gu sg) (s4 x w gu sg) dn sd k

/-! ## Planes of 128 lanes -/

/-- Lane `l` of plane `p` of a row of `n` planes. -/
def at128 {n : ℕ} (p : Fin n) (l : Fin 128) : Fin (n * 128) := ⟨128 * p.val + l.val, by omega⟩

theorem at128_surj {n : ℕ} (k : Fin (n * 128)) : ∃ p l, k = at128 (n := n) p l :=
  ⟨⟨k.val / 128, by omega⟩, ⟨k.val % 128, by omega⟩, Fin.ext (by simp only [at128]; omega)⟩

/-- A sum over a row is the sum over its lanes of the sums over its planes. -/
theorem sum_at128 {n : ℕ} (f : Fin (n * 128) → EReal) : ∑ k, f k = ∑ l : Fin 128, ∑ p : Fin n, f (at128 p l) := by
  rw [Finset.sum_comm, ← Fintype.sum_prod_type', ← Equiv.sum_comp finProdFinEquiv]
  refine Finset.sum_congr rfl fun q _ => congrArg f (Fin.ext ?_)
  simp only [at128, finProdFinEquiv_apply_val]; omega

theorem negInf_eq : negInf = ⊥ := by
  simp [negInf, Ideal.ofBits, Ideal.ieee]

/-- A largest magnitude is at most `z` when every magnitude is. -/
theorem fold_max_le {n : ℕ} (f : Fin n → EReal) (z : EReal) : Finset.univ.fold max negInf f ≤ z ↔ ∀ k, f k ≤ z := by
  rw [Finset.fold_max_le, negInf_eq]; simp

theorem amax_le {n : ℕ} (f : Fin n → EReal) (z : EReal) : amax f ≤ z ↔ ∀ k, mag (f k) ≤ z := fold_max_le _ z

theorem mag_nonneg (x : EReal) : 0 ≤ mag x := by
  rw [mag, le_max_iff, EReal.le_neg, neg_zero]; exact le_total 0 x

theorem amax_nonneg {n : ℕ} (hn : 0 < n) (f : Fin n → EReal) : 0 ≤ amax f :=
  le_trans (mag_nonneg (f ⟨0, hn⟩)) ((amax_le f _).1 le_rfl _)

end Cert.Ffn
-- ==== Proof.KernelIdealNorm.lean ====
module

public import proofs.«01_k».proof.Proof.KernelIdealPieces
public import proofs.«01_k».proof.Proof.Reads
public import proofs.«01_k».proof.Proof.Spec

/-!
# What the norm's stores hold

Rows are read as extended reals: `row x r` is row `r` of the planes. The stored codes are the codes of the norm of the
row, the stored scales its scale.
-/

@[expose] public section

noncomputable section

namespace Cert.KernelIdeal.Hand

open Cert.KernelIdeal Cert.KernelIdeal.Gen Cert.Ffn
open Idealize.ShloMosaic Idealize.ShloMosaic.TcCoe

variable {c : Dev nD}

/-- Row `r` of a buffer of planes. -/
def row {n m : ℕ} (x : (⟨3, ![n, m, 128]⟩ : Shape).Idx → EReal) (r : Fin m) (k : Fin (n * 128)) : EReal :=
  x (ix3 ⟨k.val / 128, by omega⟩ r ⟨k.val % 128, by omega⟩)

theorem row_at128 {n m : ℕ} (x : (⟨3, ![n, m, 128]⟩ : Shape).Idx → EReal) (r : Fin m) (p : Fin n) (l : Fin 128) :
    row x r (at128 p l) = x (ix3 p r l) := by
  unfold row
  congr 2 <;> refine Fin.ext ?_ <;> simp only [at128] <;> omega

/-- Row `i` of block `g`. -/
def rowAt {m : ℕ} (h : 320 ≤ m) (g : Fin 10) (i : Fin 32) : Fin m := ⟨32 * g.val + i.val, by omega⟩

/-- A plane's rows without the plane's index. -/
theorem cast32 {e : EltTy} (v : Vec Ideal S1x32x128 e) (i : Fin 32) (l : Fin 128) :
    shapeCast S32x128 v shapeCasts_S1x32x128_S32x128 (ix2 i l) = v (ix3 0 i l) := by
  pointwise

theorem blkScale_apply (am : FVec Ideal S32x128 .f32) (i : Fin 32) :
    blkScale am (ix2 i 0) = scale (Finset.univ.fold max negInf fun l => am (ix2 i l)) := by
  pointwise [blkScale]
  rfl

/-- A row's scale is that of its largest magnitude, when the lane-wise magnitudes have the same upper bounds. -/
theorem blkScale_eq {n : ℕ} (am : FVec Ideal S32x128 .f32) (i : Fin 32) (f : Fin n → EReal)
    (h : ∀ z, (∀ l, am (ix2 i l) ≤ z) ↔ ∀ k, mag (f k) ≤ z) : blkScale am (ix2 i 0) = scale (amax f) := by
  rw [blkScale_apply]
  exact congrArg scale (eq_of_forall_ge_iff fun z => by rw [fold_max_le, amax_le]; exact h z)

theorem scaleStored_apply (sc : FVec Ideal S32x1 .f32) (i : Fin 32) (l : Fin 128) : scaleStored sc (ix2 i l) = sc (ix2 i 0) := by
  pointwise [scaleStored]

theorem blkCodes_apply (sc : FVec Ideal S32x1 .f32) (y : FVec Ideal S32x128 .f32) (i : Fin 32) (l : Fin 128) (z : Fin 1) :
    blkCodes sc y (ix3 z i l) = code (sc (ix2 i 0)) (y (ix2 i l)) := by
  obtain rfl : z = 0 := Subsingleton.elim _ _
  pointwise [blkCodes]
  simp only [code, Ideal.ofBits_one_f32]

theorem absf_eq (v : EReal) : FloatOps.absf (F := Ideal) (φ := .f32) v = mag v := rfl

section
variable (X : List (View.Piece (Elt Ideal) cc0_scratch5.ty.shape cc0_scratch5.ty.elt)) (W : Bf (F := Ideal) c (Memref.whole cc0_scratch0))
  (x : S8x328x128.Idx → EReal) (w : Fin 1024 → EReal)
  (hX : ∀ (h : 320 ≤ 328) (p : Fin 8) (g : Fin 10) (i : Fin 32) (l : Fin 128), nX X p g (ix2 i l) = row x (rowAt h g i) (at128 (n := 8) p l))
  (hW : ∀ k, View.read (Elt Ideal) (Memref.whole cc0_scratch0).view W (ix2 0 k) = w k)

include hX in
theorem nRinv_apply (g : Fin 10) (i : Fin 32) : nRinv X g (ix2 i 0) = rinv (row x (rowAt (by decide) g i)) := by
  pointwise [nRinv, nSsq]
  unfold rinv
  rw [sum_at128 (n := 8)]
  simp only [hX (by decide), Fin.sum_univ_eight]

include hX hW in
theorem nY_apply (p : Fin 8) (g : Fin 10) (i : Fin 32) (l : Fin 128) :
    nY X W p g (ix2 i l) = normed (row x (rowAt (by decide) g i)) w (at128 (n := 8) p l) := by
  have h : View.readAt (Elt Ideal) (Memref.whole cc0_scratch0).view (Rect.unit (s := S1x1024) ![0, 128 * p.val] S1x128.size (in0 p)).toLoadRect W (ix2 0 l)
      = w (at128 (n := 8) p l) := by
    rw [← hW]
    exact readAt_ix2 _ _ (in0 p) 0 l 0 (at128 (n := 8) p l) (by simp) rfl
  unfold nY
  generalize View.readAt (Elt Ideal) (Memref.whole cc0_scratch0).view (Rect.unit (s := S1x1024) ![0, 128 * p.val] S1x128.size (in0 p)).toLoadRect W = u at h ⊢
  pointwise
  rw [hX (by decide), nRinv_apply X x hX, h]
  rfl

include hX hW in
theorem nScale_apply (g : Fin 10) (i : Fin 32) : blkScale (nAm X W g) (ix2 i 0) = s3 (row x (rowAt (by decide) g i)) w := by
  refine blkScale_eq _ _ _ fun z => ?_
  have h (l : Fin 128) : nAm X W g (ix2 i l) ≤ z ↔ ∀ p : Fin 8, mag (normed (row x (rowAt (by decide) g i)) w (at128 (n := 8) p l)) ≤ z := by
    pointwise [nAm]
    simp only [nY_apply X W x w hX hW, max_le_iff, absf_eq]
    simp only [Fin.forall_fin_succ, IsEmpty.forall_iff, and_true, and_assoc]
    rfl
  simp only [h]
  constructor
  · intro h k
    obtain ⟨p, l, rfl⟩ := at128_surj (n := 8) k
    exact h l p
  · exact fun h l p => h _

include hX hW in
/-- The codes' stores hold the rows' codes. -/
theorem c3L_holds : ∀ p ∈ c3L X W, ∀ y : p.1.shape.Idx,
    p.2 y = (fun y : S8x320x128.Idx => c3 (row x ⟨(y 1).val, by have := (y 1).isLt; simp at this; omega⟩) w (at128 (n := 8) (y 0) (y 2))) (p.1.emb y) := by
  intro q hq
  simp only [c3L, mem_lst2, mem_lst] at hq
  obtain ⟨g, p, rfl⟩ := hq
  refine piece_ix3 (Val := Elt Ideal) (e := .fp8e4m3) (fun y0 y1 y2 => c3 (row x ⟨y1.val, by omega⟩) w (at128 (n := 8) y0 y2)) (in6 p g) _ ?_
  intro i j k y0 y1 y2 h0 h1 h2
  refine (blkCodes_apply _ _ j k i).trans ?_
  rw [nScale_apply X W x w hX hW, nY_apply X W x w hX hW]
  obtain rfl : y0 = p := Fin.ext (by omega)
  obtain rfl : y2 = k := Fin.ext (by omega)
  have : rowAt (m := 328) (by decide) g j = ⟨y1.val, by omega⟩ := Fin.ext (by simp only [rowAt]; omega)
  rw [this]; rfl

include hX hW in
/-- The scales' stores hold the rows' scales. -/
theorem s3L_holds : ∀ p ∈ s3L X W, ∀ y : p.1.shape.Idx,
    p.2 y = (fun y : S328x128.Idx => s3 (row x (y 0)) w) (p.1.emb y) := by
  intro q hq
  simp only [s3L, mem_lst] at hq
  obtain ⟨g, rfl⟩ := hq
  refine piece_ix2 (Val := Elt Ideal) (e := .f32) (fun y0 y1 => s3 (row x y0) w) (in7 g) _ ?_
  intro i j y0 y1 h0 h1
  refine (scaleStored_apply (blkScale (nAm X W g)) i j).trans ?_
  rw [nScale_apply X W x w hX hW]
  have : rowAt (m := 328) (by decide) g i = y0 := Fin.ext (by simp only [rowAt]; omega)
  rw [this]

end

/-- The codes' stores cover the planes. -/
theorem c3L_covers (X : List (View.Piece (Elt Ideal) cc0_scratch5.ty.shape cc0_scratch5.ty.elt)) (W : Bf (F := Ideal) c (Memref.whole cc0_scratch0)) (y0 : Fin 8) (y1 : Fin 320) (y2 : Fin 128) :
    ∃ p ∈ c3L X W, ix3 y0 y1 y2 ∈ p.1.set := by
  refine ⟨_, mem_lst2.2 ⟨⟨y1.val / 32, by omega⟩, mem_lst.2 ⟨y0, rfl⟩⟩, mem_ix3 (in6 y0 ⟨y1.val / 32, by omega⟩) _ _ _ ?_ ?_ ?_⟩
  · exact ⟨le_rfl, Nat.lt_succ_self _⟩
  · exact ⟨by show 32 * (y1.val / 32) ≤ _; omega, by show _ < 32 * (y1.val / 32) + 32; omega⟩
  · exact ⟨Nat.zero_le _, by omega⟩

/-- The scales' stores cover the first 320 rows. -/
theorem s3L_covers (X : List (View.Piece (Elt Ideal) cc0_scratch5.ty.shape cc0_scratch5.ty.elt)) (W : Bf (F := Ideal) c (Memref.whole cc0_scratch0)) (y0 : Fin 328) (y1 : Fin 128) (h : y0.val < 320) :
    ∃ p ∈ s3L X W, ix2 y0 y1 ∈ p.1.set := by
  refine ⟨_, mem_lst.2 ⟨⟨y0.val / 32, by omega⟩, rfl⟩, mem_ix2 (in7 ⟨y0.val / 32, by omega⟩) _ _ ?_ ?_⟩
  · exact ⟨by show 32 * (y0.val / 32) ≤ _; omega, by show _ < 32 * (y0.val / 32) + 32; omega⟩
  · exact ⟨Nat.zero_le _, by omega⟩

end Cert.KernelIdeal.Hand
-- ==== Proof.KernelIdealGate.lean ====
module

public import proofs.«01_k».proof.Proof.KernelIdealNorm
public import Idealize.ShloMosaic.Lib.VecWindow

/-!
# What the gate's stores hold

From the codes `cr` and the scales `sr` of the rows: the hidden values, and their running largest magnitudes.
-/

@[expose] public section

noncomputable section

namespace Cert.KernelIdeal.Hand

open Cert.KernelIdeal Cert.KernelIdeal.Gen Cert.Ffn
open Idealize.ShloMosaic Idealize.ShloMosaic.TcCoe

variable {c : Dev nD}

theorem cast320 {e : EltTy} (v : Vec Ideal S1x320x128 e) (i : Fin 320) (l : Fin 128) :
    shapeCast S320x128 v shapeCasts_S1x320x128_S320x128 (ix2 i l) = v (ix3 0 i l) := by
  pointwise

theorem uncast320 {e : EltTy} (v : Vec Ideal S320x128 e) (z : Fin 1) (i : Fin 320) (l : Fin 128) :
    shapeCast S1x320x128 v shapeCasts_S320x128_S1x320x128 (ix3 z i l) = v (ix2 i l) := by
  obtain rfl : z = 0 := Subsingleton.elim _ _
  pointwise

theorem castW {e : EltTy} (v : Vec Ideal S1x1024x256 e) (i : Fin 1024) (l : Fin 256) :
    shapeCast S1024x256 v shapeCasts_S1x1024x256_S1024x256 (ix2 i l) = v (ix3 0 i l) := by
  pointwise

/-- Planes side by side: a lane of a plane. -/
theorem cat8_apply (x : Fin 8 → FVec Ideal S320x128 .fp8e4m3) (r : Fin 320) (p : Fin 8) (l : Fin 128) :
    cat8 x (ix2 r (at128 (n := 8) p l)) = x p (ix2 r l) := by
  refine Idealize.ShloMosaic.concatenate_ofFn_apply (s₁ := S320x128) (t := S320x1024) 1 x
    concatenates_S320x128_S320x128_S320x128_S320x128_S320x128_S320x128_S320x128_S320x128_S320x1024_d1 rfl 128 rfl
    (ix2 r (at128 (n := 8) p l)) p ?_ (ix2 r l) ?_ ?_
  · show (128 * p.val + l.val) / 128 = p.val; omega
  · show l.val = (128 * p.val + l.val) % 128; omega
  · intro b hb
    match b with
    | ⟨0, _⟩ => rfl
    | ⟨1, _⟩ => exact absurd rfl hb

/-- Column `k` of block `n`, of 256 columns. -/
def col256 (n : Fin 16) (k : Fin 256) : Fin 4096 := ⟨256 * n.val + k.val, by omega⟩

section
variable (lc : List (View.Piece (Elt Ideal) cc0_scratch6.ty.shape cc0_scratch6.ty.elt)) (ls : List (View.Piece (Elt Ideal) cc0_scratch7.ty.shape cc0_scratch7.ty.elt))
  (GU : Bf (F := Ideal) c (Memref.whole cc0_scratch1)) (SG : Bf (F := Ideal) c (Memref.whole cc0_scratch2))
  (cr : Fin 320 → Fin 1024 → EReal) (sr : Fin 320 → EReal)
  (gu : Fin 2 → Fin 1024 → Fin 4096 → EReal) (sg : Fin 2 → Fin 4096 → EReal)
  (hc : ∀ p r l, c3P lc p (ix2 r l) = cr r (at128 (n := 8) p l)) (hs : ∀ r l, s3V ls (ix2 r l) = sr r)
  (hGU : ∀ i k j, View.read (Elt Ideal) (Memref.whole cc0_scratch1).view GU (ix3 i k j) = gu i k j)
  (hSG : ∀ i j, View.read (Elt Ideal) (Memref.whole cc0_scratch2).view SG (ix2 i j) = sg i j)

include hc in
theorem cat8_row (r : Fin 320) (k : Fin 1024) : cat8 (c3P lc) (ix2 r k) = cr r k := by
  obtain ⟨p, l, rfl⟩ := at128_surj (n := 8) k
  exact (cat8_apply _ r p l).trans (hc p r l)

include hc hGU in
theorem gAcc_apply (i : Fin 2) (n : Fin 16) (r : Fin 320) (k : Fin 256) :
    gAcc lc GU i n (ix2 r k) = ∑ q, cr r q * gu i q (col256 n k) := by
  have hw (q : Fin 1024) : shapeCast S1024x256 (View.readAt (Elt Ideal) (Memref.whole cc0_scratch1).view (Rect.unit (s := S2x1024x4096) ![i.val, 0, 256 * n.val] S1x1024x256.size (in1 i n)).toLoadRect GU)
      shapeCasts_S1x1024x256_S1024x256 (ix2 q k) = gu i q (col256 n k) := by
    rw [← hGU]
    exact (castW _ q k).trans (readAt_ix3 _ _ (in1 i n) 0 q k i q (col256 n k) (by simp) (by simp) rfl)
  have hx := cat8_row lc cr hc r
  unfold gAcc
  generalize shapeCast S1024x256 (View.readAt (Elt Ideal) (Memref.whole cc0_scratch1).view (Rect.unit (s := S2x1024x4096) ![i.val, 0, 256 * n.val] S1x1024x256.size (in1 i n)).toLoadRect GU)
      shapeCasts_S1x1024x256_S1024x256 = w at hw ⊢
  generalize cat8 (c3P lc) = x at hx ⊢
  pointwise
  refine Finset.sum_congr rfl fun q _ => ?_
  rw [hx, hw]

include hc hs hGU hSG in
theorem gVal_apply (i : Fin 2) (n : Fin 16) (j : Fin 2) (r : Fin 320) (l : Fin 128) :
    gVal lc ls GU SG i n j (ix2 r l) = proj (cr r) (sr r) (gu i) (sg i) (at128 (n := 32) (plane n j) l) := by
  have hk : at128 (n := 32) (plane n j) l = col256 n ⟨128 * j.val + l.val, by omega⟩ :=
    Fin.ext (by simp only [at128, plane, col256]; omega)
  have ha := gAcc_apply lc GU cr gu hc hGU i n r ⟨128 * j.val + l.val, by omega⟩
  have hg : View.readAt (Elt Ideal) (Memref.whole cc0_scratch2).view (Rect.unit (s := S2x4096) ![i.val, 256 * n.val] S1x256.size (in2 i n)).toLoadRect SG
      (ix2 0 ⟨128 * j.val + l.val, by omega⟩) = sg i (col256 n ⟨128 * j.val + l.val, by omega⟩) := by
    rw [← hSG]
    exact readAt_ix2 _ _ (in2 i n) 0 _ i _ (by simp) rfl
  rw [hk]
  unfold gVal proj
  generalize View.readAt (Elt Ideal) (Memref.whole cc0_scratch2).view (Rect.unit (s := S2x4096) ![i.val, 256 * n.val] S1x256.size (in2 i n)).toLoadRect SG = u at hg ⊢
  generalize gAcc lc GU i n = x at ha ⊢
  have h := hs r l
  generalize s3V ls = y at h ⊢
  pointwise
  rw [← ha, ← h, ← hg]

theorem geluV_apply (g : FVec Ideal S320x128 .f32) (r : Fin 320) (l : Fin 128) : geluV g (ix2 r l) = gelu (g (ix2 r l)) := by
  pointwise [geluV]
  rfl

/-- The hidden values of row `r`. -/
def hidR (r : Fin 320) (j : Fin 4096) : EReal :=
  gelu (proj (cr r) (sr r) (gu 0) (sg 0) j) * proj (cr r) (sr r) (gu 1) (sg 1) j

include hc hs hGU hSG in
theorem hidV_apply (n : Fin 16) (j : Fin 2) (r : Fin 320) (l : Fin 128) :
    hidV lc ls GU SG n j (ix2 r l) = hidR cr sr gu sg r (at128 (n := 32) (plane n j) l) := by
  unfold hidV hidR
  rw [← gVal_apply lc ls GU SG cr sr gu sg hc hs hGU hSG 0 n j r l, ← gVal_apply lc ls GU SG cr sr gu sg hc hs hGU hSG 1 n j r l, ← geluV_apply]
  rfl

include hc hs hGU hSG in
/-- The hidden values' stores hold them. -/
theorem hidL_holds : ∀ p ∈ hidL lc ls GU SG, ∀ y : p.1.shape.Idx,
    p.2 y = (fun y : S32x320x128.Idx => hidR cr sr gu sg (y 1) (at128 (n := 32) (y 0) (y 2))) (p.1.emb y) := by
  intro q hq
  simp only [hidL, mem_lst2, mem_lst] at hq
  obtain ⟨n, j, rfl⟩ := hq
  refine piece_ix3 (Val := Elt Ideal) (e := .f32) (fun y0 y1 y2 => hidR cr sr gu sg y1 (at128 (n := 32) y0 y2)) (in8f (plane n j)) _ ?_
  intro i r l y0 y1 y2 h0 h1 h2
  refine (uncast320 (e := .f32) (hidV lc ls GU SG n j) i r l).trans ?_
  rw [hidV_apply lc ls GU SG cr sr gu sg hc hs hGU hSG]
  obtain rfl : y0 = plane n j := Fin.ext (by omega)
  obtain rfl : y1 = r := Fin.ext (by omega)
  obtain rfl : y2 = l := Fin.ext (by omega)
  rfl

/-- The hidden values' stores cover the planes. -/
theorem hidL_covers (y0 : Fin 32) (y1 : Fin 320) (y2 : Fin 128) : ∃ p ∈ hidL lc ls GU SG, ix3 y0 y1 y2 ∈ p.1.set := by
  refine ⟨_, mem_lst2.2 ⟨⟨y0.val / 2, by omega⟩, mem_lst.2 ⟨⟨y0.val % 2, by omega⟩, rfl⟩⟩, mem_ix3 (in8f (plane ⟨y0.val / 2, by omega⟩ ⟨y0.val % 2, by omega⟩)) _ _ _ ?_ ?_ ?_⟩
  · constructor <;> simp only [plane] <;> omega
  · exact ⟨Nat.zero_le _, by omega⟩
  · exact ⟨Nat.zero_le _, by omega⟩

/-- The running maximum after `n` column blocks, read back. -/
def amV (n : ℕ) (h : n ≤ 16) : FVec Ideal S320x128 .f32 :=
  (Memref.whole cc0_scratch9).view.readCov (amL lc ls GU SG n h) (Rect.unit (s := S320x128) ![0, 0] S320x128.size inb_S320x128_S320x128_0_0).toLoadRect

theorem amL_zero (h : 0 ≤ 16) (r : Fin 320) (l : Fin 128) :
    amV lc ls GU SG 0 h (ix2 r l) = (0 : EReal) := by
  have e := View.readCov_full (Val := Elt Ideal) (Memref.whole cc0_scratch9).view inb_S320x128_S320x128_0_0 inb_S320x128_S320x128_0_0
    (shapeCast S320x128 (broadcast S320x128 (Scalar.ofBits (F := Ideal) .f32 0x00000000#32)) shapeCasts_S320x128_S320x128) []
  refine (congrFun e (ix2 r l)).trans ?_
  pointwise

theorem amL_succ (n : ℕ) (h : n + 1 ≤ 16) (r : Fin 320) (l : Fin 128) :
    amV lc ls GU SG (n + 1) h (ix2 r l)
      = max (max (amV lc ls GU SG n (by omega) (ix2 r l))
        (mag (hidV lc ls GU SG ⟨n, by omega⟩ 0 (ix2 r l)))) (mag (hidV lc ls GU SG ⟨n, by omega⟩ 1 (ix2 r l))) := by
  have e := View.readCov_full (Val := Elt Ideal) (Memref.whole cc0_scratch9).view inb_S320x128_S320x128_0_0 inb_S320x128_S320x128_0_0
    (shapeCast S320x128 (maximumf (F := Ideal) (φ := .f32) (maximumf
        (amV lc ls GU SG n (by omega))
        (absf (hidV lc ls GU SG ⟨n, by omega⟩ 0))) (absf (hidV lc ls GU SG ⟨n, by omega⟩ 1))) shapeCasts_S320x128_S320x128) (amL lc ls GU SG n (by omega))
  refine (congrFun e (ix2 r l)).trans ?_
  generalize amV lc ls GU SG n (by omega) = u
  pointwise
  rfl

include hc hs hGU hSG in
/-- The running maximum after `n` column blocks: the bounds of the magnitudes of the first `2 n` planes. -/
theorem amL_le (n : ℕ) (h : n ≤ 16) (r : Fin 320) (l : Fin 128) (z : EReal) :
    amV lc ls GU SG n h (ix2 r l) ≤ z
      ↔ 0 ≤ z ∧ ∀ q : Fin 32, q.val < 2 * n → mag (hidR cr sr gu sg r (at128 (n := 32) q l)) ≤ z := by
  induction n with
  | zero => rw [amL_zero]; simp
  | succ n ih =>
    rw [amL_succ, max_le_iff, max_le_iff, ih (by omega), hidV_apply lc ls GU SG cr sr gu sg hc hs hGU hSG, hidV_apply lc ls GU SG cr sr gu sg hc hs hGU hSG]
    constructor
    · rintro ⟨⟨⟨hz, ha⟩, h0⟩, h1⟩
      refine ⟨hz, fun q hq => ?_⟩
      by_cases h2 : q.val < 2 * n
      · exact ha q h2
      by_cases h3 : q.val = 2 * n
      · rw [show q = plane ⟨n, by omega⟩ 0 from Fin.ext (by simpa [plane] using h3)]
        exact h0
      · rw [show q = plane ⟨n, by omega⟩ 1 from Fin.ext (by simp [plane]; omega)]
        exact h1
    · rintro ⟨hz, ha⟩
      exact ⟨⟨⟨hz, fun q hq => ha q (by omega)⟩, ha _ (by simp [plane]; try omega)⟩, ha _ (by simp [plane]; try omega)⟩

end

end Cert.KernelIdeal.Hand
-- ==== Proof.KernelIdealDown.lean ====
module

public import proofs.«01_k».proof.Proof.KernelIdealGate

/-!
# What the stores of the hidden codes and of the new residual hold

From the rows' hidden values `hr`: their codes and scales. From the hidden codes `cr` and scales `sr`: the new residual.
-/

@[expose] public section

noncomputable section

namespace Cert.KernelIdeal.Hand

open Cert.KernelIdeal Cert.KernelIdeal.Gen Cert.Ffn
open Idealize.ShloMosaic Idealize.ShloMosaic.TcCoe

variable {c : Dev nD}

/-- The lane-wise largest magnitudes, read back. -/
def amAll (la : List (View.Piece (Elt Ideal) cc0_scratch9.ty.shape cc0_scratch9.ty.elt)) : FVec Ideal S320x128 .f32 :=
  (Memref.whole cc0_scratch9).view.readCov la (Rect.unit (s := S320x128) ![0, 0] S320x128.size inb_S320x128_S320x128_0_0).toLoadRect

/-- Those of the rows of block `g`. -/
def amBlk (la : List (View.Piece (Elt Ideal) cc0_scratch9.ty.shape cc0_scratch9.ty.elt)) (g : Fin 10) : FVec Ideal S32x128 .f32 :=
  (Memref.whole cc0_scratch9).view.readCov la (Rect.unit (s := S320x128) ![32 * g.val, 0] S32x128.size (in9 g)).toLoadRect

section
variable (lh : List (View.Piece (Elt Ideal) cc0_scratch8.ty.shape cc0_scratch8.ty.elt)) (la : List (View.Piece (Elt Ideal) cc0_scratch9.ty.shape cc0_scratch9.ty.elt))
  (hr : Fin 320 → Fin 4096 → EReal)
  (hH : ∀ p ∈ lh, ∀ y : p.1.shape.Idx, p.2 y = (fun y : S32x320x128.Idx => hr (y 1) (at128 (n := 32) (y 0) (y 2))) (p.1.emb y))
  (hC : ∀ y0 y1 y2, ∃ p ∈ lh, ix3 y0 y1 y2 ∈ p.1.set)
  (hA : ∀ (r : Fin 320) (l : Fin 128) (z : EReal), amAll la (ix2 r l) ≤ z
      ↔ 0 ≤ z ∧ ∀ q : Fin 32, mag (hr r (at128 (n := 32) q l)) ≤ z)

include hH hC in
theorem hB_apply (q : Fin 32) (g : Fin 10) (i : Fin 32) (l : Fin 128) : hB lh q g (ix2 i l) = hr (rowAt (by decide) g i) (at128 (n := 32) q l) :=
  (cast32 _ i l).trans (readCov_ix3 (Val := Elt Ideal) (e := .f32) _ lh (fun y0 y1 y2 => hr y1 (at128 (n := 32) y0 y2)) hH (in8 q g) 0 i l q (rowAt (by decide) g i) l (hC _ _ _)
    (by simp) rfl (by simp))

/-- A load of the magnitudes' rows of block `g` is those rows of the whole. -/
theorem am_rows (g : Fin 10) (i : Fin 32) (l : Fin 128) :
    amBlk la g (ix2 i l) = amAll la (ix2 (rowAt (by decide) g i) l) := by
  unfold amBlk amAll View.readCov
  exact (readAt_ix2 (Val := Elt Ideal) _ _ (in9 g) i l (rowAt (by decide) g i) l rfl (by simp)).trans
    (readAt_ix2 (Val := Elt Ideal) _ _ inb_S320x128_S320x128_0_0 (rowAt (by decide) g i) l (rowAt (by decide) g i) l (by simp) (by simp)).symm

include hA in
theorem hScale_apply (g : Fin 10) (i : Fin 32) : hScale la g (ix2 i 0) = scale (amax (hr (rowAt (by decide) g i))) := by
  refine blkScale_eq (amBlk la g) _ _ fun z => ?_
  have h (l : Fin 128) : amBlk la g (ix2 i l) ≤ z
      ↔ 0 ≤ z ∧ ∀ q : Fin 32, mag (hr (rowAt (by decide) g i) (at128 (n := 32) q l)) ≤ z := by
    rw [← hA, ← am_rows]
  constructor
  · intro H k
    obtain ⟨q, l, rfl⟩ := at128_surj (n := 32) k
    exact ((h l).1 (H l)).2 q
  · exact fun H l => (h l).2 ⟨le_trans (mag_nonneg _) (H ⟨0, by decide⟩), fun q => H _⟩

include hH hC hA in
/-- The hidden codes' stores hold the rows' codes. -/
theorem c4L_holds : ∀ p ∈ c4L lh la, ∀ y : p.1.shape.Idx,
    p.2 y = (fun y : S32x320x128.Idx => code (scale (amax (hr (y 1)))) (hr (y 1) (at128 (n := 32) (y 0) (y 2)))) (p.1.emb y) := by
  intro q hq
  simp only [c4L, mem_lst2, mem_lst] at hq
  obtain ⟨g, p, rfl⟩ := hq
  refine piece_ix3 (Val := Elt Ideal) (e := .fp8e4m3) (fun y0 y1 y2 => code (scale (amax (hr y1))) (hr y1 (at128 (n := 32) y0 y2))) (in8 p g) _ ?_
  intro i j k y0 y1 y2 h0 h1 h2
  refine (blkCodes_apply _ _ j k i).trans ?_
  rw [hScale_apply la hr hA, hB_apply lh hr hH hC]
  obtain rfl : y0 = p := Fin.ext (by omega)
  obtain rfl : y2 = k := Fin.ext (by omega)
  have : rowAt (m := 320) (by decide) g j = y1 := Fin.ext (by simp only [rowAt]; omega)
  rw [this]

include hA in
/-- The hidden scales' stores hold the rows' scales. -/
theorem s4L_holds : ∀ p ∈ s4L la, ∀ y : p.1.shape.Idx,
    p.2 y = (fun y : S328x128.Idx => if h : (y 0).val < 320 then scale (amax (hr ⟨(y 0).val, h⟩)) else 0) (p.1.emb y) := by
  intro q hq
  simp only [s4L, mem_lst] at hq
  obtain ⟨g, rfl⟩ := hq
  refine piece_ix2 (Val := Elt Ideal) (e := .f32) (fun y0 y1 => if h : y0.val < 320 then scale (amax (hr ⟨y0.val, h⟩)) else 0) (in7 g) _ ?_
  intro i j y0 y1 h0 h1
  refine (scaleStored_apply (hScale la g) i j).trans ?_
  rw [hScale_apply la hr hA, dif_pos (show y0.val < 320 by omega)]
  have : rowAt (m := 320) (by decide) g i = ⟨y0.val, by omega⟩ := Fin.ext (by simp only [rowAt]; omega)
  rw [this]

/-- The hidden codes' stores cover the planes. -/
theorem c4L_covers (y0 : Fin 32) (y1 : Fin 320) (y2 : Fin 128) : ∃ p ∈ c4L lh la, ix3 y0 y1 y2 ∈ p.1.set := by
  refine ⟨_, mem_lst2.2 ⟨⟨y1.val / 32, by omega⟩, mem_lst.2 ⟨y0, rfl⟩⟩, mem_ix3 (in8 y0 ⟨y1.val / 32, by omega⟩) _ _ _ ?_ ?_ ?_⟩
  · exact ⟨le_rfl, Nat.lt_succ_self _⟩
  · exact ⟨by show 32 * (y1.val / 32) ≤ _; omega, by show _ < 32 * (y1.val / 32) + 32; omega⟩
  · exact ⟨Nat.zero_le _, by omega⟩

/-- The hidden scales' stores cover the first 320 rows. -/
theorem s4L_covers (y0 : Fin 328) (y1 : Fin 128) (h : y0.val < 320) : ∃ p ∈ s4L la, ix2 y0 y1 ∈ p.1.set := by
  refine ⟨_, mem_lst.2 ⟨⟨y0.val / 32, by omega⟩, rfl⟩, mem_ix2 (in7 ⟨y0.val / 32, by omega⟩) _ _ ?_ ?_⟩
  · exact ⟨by show 32 * (y0.val / 32) ≤ _; omega, by show _ < 32 * (y0.val / 32) + 32; omega⟩
  · exact ⟨Nat.zero_le _, by omega⟩

end

/-- Planes side by side: a lane of a plane. -/
theorem cat32_apply (x : Fin 32 → FVec Ideal S320x128 .fp8e4m3) (r : Fin 320) (p : Fin 32) (l : Fin 128) :
    cat32 x (ix2 r (at128 (n := 32) p l)) = x p (ix2 r l) := by
  refine Idealize.ShloMosaic.concatenate_ofFn_apply (s₁ := S320x128) (t := S320x4096) 1 x
    concatenates_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x4096_d1 rfl 128 rfl
    (ix2 r (at128 (n := 32) p l)) p ?_ (ix2 r l) ?_ ?_
  · show (128 * p.val + l.val) / 128 = p.val; omega
  · show l.val = (128 * p.val + l.val) % 128; omega
  · intro b hb
    match b with
    | ⟨0, _⟩ => rfl
    | ⟨1, _⟩ => exact absurd rfl hb

/-- Column `k` of block `n`, of 512 columns. -/
def col512 (n : Fin 2) (k : Fin 512) : Fin 1024 := ⟨512 * n.val + k.val, by omega⟩

section
variable (lc : List (View.Piece (Elt Ideal) cc0_scratch10.ty.shape cc0_scratch10.ty.elt)) (ls : List (View.Piece (Elt Ideal) cc0_scratch11.ty.shape cc0_scratch11.ty.elt))
  (DN : Bf (F := Ideal) c (Memref.whole cc0_scratch3)) (SD : Bf (F := Ideal) c (Memref.whole cc0_scratch4))
  (cr : Fin 320 → Fin 4096 → EReal) (sr : Fin 320 → EReal) (dn : Fin 4096 → Fin 1024 → EReal) (sd : Fin 1024 → EReal)
  (hc : ∀ q r l, c4P lc q (ix2 r l) = cr r (at128 (n := 32) q l)) (hs : ∀ r l, s4V ls (ix2 r l) = sr r)
  (hDN : ∀ k j, View.read (Elt Ideal) (Memref.whole cc0_scratch3).view DN (ix2 k j) = dn k j)
  (hSD : ∀ j, View.read (Elt Ideal) (Memref.whole cc0_scratch4).view SD (ix2 0 j) = sd j)

include hc in
theorem cat32_row (r : Fin 320) (k : Fin 4096) : cat32 (c4P lc) (ix2 r k) = cr r k := by
  obtain ⟨p, l, rfl⟩ := at128_surj (n := 32) k
  exact (cat32_apply _ r p l).trans (hc p r l)

include hc hDN in
theorem dAcc_apply (n : Fin 2) (r : Fin 320) (k : Fin 512) : dAcc lc DN n (ix2 r k) = ∑ q, cr r q * dn q (col512 n k) := by
  have hw (q : Fin 4096) : View.readAt (Elt Ideal) (Memref.whole cc0_scratch3).view (Rect.unit (s := S4096x1024) ![0, 512 * n.val] S4096x512.size (in3 n)).toLoadRect DN (ix2 q k)
      = dn q (col512 n k) := by
    rw [← hDN]
    exact readAt_ix2 _ _ (in3 n) q k q (col512 n k) (by simp) rfl
  have hx := cat32_row lc cr hc r
  unfold dAcc
  generalize View.readAt (Elt Ideal) (Memref.whole cc0_scratch3).view (Rect.unit (s := S4096x1024) ![0, 512 * n.val] S4096x512.size (in3 n)).toLoadRect DN = w at hw ⊢
  generalize cat32 (c4P lc) = x at hx ⊢
  pointwise
  refine Finset.sum_congr rfl fun q _ => ?_
  rw [hx, hw]

include hSD in
theorem sdV_apply (n : Fin 2) (k : Fin 512) : sdV SD n (ix2 0 k) = sd (col512 n k) := by
  rw [← hSD]
  exact readAt_ix2 _ _ (in4 n) 0 _ 0 _ (by simp) rfl

end

section
variable (v : Fin 8 → FVec Ideal S320x128 .f32) (acc : Fin 2 → FVec Ideal S320x512 .f32) (s : FVec Ideal S320x128 .f32) (u : Fin 2 → FVec Ideal S1x512 .f32)
  (x : S8x328x128.Idx → EReal) {m : ℕ} (cr : Fin 320 → Fin m → EReal) (sr : Fin 320 → EReal) (dn : Fin m → Fin 1024 → EReal) (sd : Fin 1024 → EReal)
  (hv : ∀ p (r : Fin 320) l (h : r.val < 328), v p (ix2 r l) = row x ⟨r.val, h⟩ (at128 (n := 8) p l))
  (ha : ∀ n (r : Fin 320) k, acc n (ix2 r k) = ∑ q, cr r q * dn q (col512 n k))
  (hs : ∀ r l, s (ix2 r l) = sr r) (hu : ∀ n k, u n (ix2 0 k) = sd (col512 n k))

include hv ha hs hu in
theorem outV_apply (n : Fin 2) (j : Fin 4) (r : Fin 320) (l : Fin 128) :
    outV (v (oplane n j)) (acc n) s (u n) j (ix2 r l)
      = row x ⟨r.val, by omega⟩ (at128 (n := 8) (oplane n j) l) + proj (cr r) (sr r) dn sd (at128 (n := 8) (oplane n j) l) := by
  have hk : at128 (n := 8) (oplane n j) l = col512 n ⟨128 * j.val + l.val, by omega⟩ :=
    Fin.ext (by simp only [at128, oplane, col512]; omega)
  have ha' := ha n r ⟨128 * j.val + l.val, by omega⟩
  have hu' := hu n ⟨128 * j.val + l.val, by omega⟩
  have hs' := hs r l
  rw [← hv _ _ _ (by omega), hk]
  unfold outV proj
  generalize v (oplane n j) = v'
  generalize acc n = y at ha' ⊢
  generalize u n = w at hu' ⊢
  pointwise
  rw [← ha', ← hs', ← hu']

include hv ha hs hu in
/-- The new residual's stores hold it. -/
theorem outL_holds : ∀ p ∈ outL v acc s u, ∀ y : p.1.shape.Idx,
    p.2 y = (fun y : S8x328x128.Idx => if h : (y 1).val < 320 then
      row x (y 1) (at128 (n := 8) (y 0) (y 2)) + proj (cr ⟨(y 1).val, h⟩) (sr ⟨(y 1).val, h⟩) dn sd (at128 (n := 8) (y 0) (y 2)) else 0) (p.1.emb y) := by
  intro q hq
  simp only [outL, mem_lst2, mem_lst] at hq
  obtain ⟨n, j, rfl⟩ := hq
  refine piece_ix3 (Val := Elt Ideal) (e := .f32) (fun y0 y1 y2 => if h : y1.val < 320 then
      row x y1 (at128 (n := 8) y0 y2) + proj (cr ⟨y1.val, h⟩) (sr ⟨y1.val, h⟩) dn sd (at128 (n := 8) y0 y2) else 0) (in5f (oplane n j)) _ ?_
  intro i r l y0 y1 y2 h0 h1 h2
  refine (uncast320 (e := .f32) (outV (v (oplane n j)) (acc n) s (u n) j) i r l).trans ?_
  rw [outV_apply v acc s u x cr sr dn sd hv ha hs hu, dif_pos (show y1.val < 320 by omega)]
  obtain rfl : y0 = oplane n j := Fin.ext (by omega)
  obtain rfl : y2 = l := Fin.ext (by omega)
  have e : r.val = y1.val := by omega
  rw [show (⟨y1.val, _⟩ : Fin 320) = r from Fin.ext e.symm, show (⟨r.val, _⟩ : Fin 328) = y1 from Fin.ext e]

/-- The new residual's stores cover the first 320 rows. -/
theorem outL_covers (y0 : Fin 8) (y1 : Fin 328) (y2 : Fin 128) (h : y1.val < 320) : ∃ p ∈ outL v acc s u, ix3 y0 y1 y2 ∈ p.1.set := by
  refine ⟨_, mem_lst2.2 ⟨⟨y0.val / 4, by omega⟩, mem_lst.2 ⟨⟨y0.val % 4, by omega⟩, rfl⟩⟩, mem_ix3 (in5f (oplane ⟨y0.val / 4, by omega⟩ ⟨y0.val % 4, by omega⟩)) _ _ _ ?_ ?_ ?_⟩
  · constructor <;> simp only [oplane] <;> omega
  · exact ⟨Nat.zero_le _, by omega⟩
  · exact ⟨Nat.zero_le _, by omega⟩

end

end Cert.KernelIdeal.Hand
-- ==== Proof.KernelIdealOut.lean ====
module

public import proofs.«01_k».proof.Proof.KernelIdealDown

/-!
# The attention output's codes and scales, and their product with the output weight

Each row of the attention output has its own scale and codes; the product with the output weight is scaled by both
scales and added into the residual.
-/

@[expose] public section

noncomputable section

namespace Cert.KernelIdeal.Hand

open Cert.KernelIdeal Cert.KernelIdeal.Gen Cert.Ffn
open Idealize.ShloMosaic Idealize.ShloMosaic.TcCoe

variable {c : Dev nD}

section
variable (O : Bf (F := Ideal) c (Memref.whole cc0_scratch17)) (o : S16x328x128.Idx → EReal)
  (hO : View.read (Elt Ideal) (Memref.whole cc0_scratch17).view O = o)

include hO in
theorem oB_apply (q : Fin 16) (g : Fin 10) (i : Fin 32) (l : Fin 128) : oB O q g (ix2 i l) = row o (rowAt (by decide) g i) (at128 (n := 16) q l) := by
  rw [row_at128, ← hO]
  exact (cast32 _ i l).trans (readAt_ix3 _ _ (in17 q g) 0 i l q (rowAt (by decide) g i) l (by simp) rfl (by simp))

include hO in
theorem oScale_apply (g : Fin 10) (i : Fin 32) : blkScale (oAm O g) (ix2 i 0) = qs (row o (rowAt (by decide) g i)) := by
  refine blkScale_eq _ _ _ fun z => ?_
  have h (l : Fin 128) : oAm O g (ix2 i l) ≤ z ↔ ∀ q : Fin 16, mag (row o (rowAt (by decide) g i) (at128 (n := 16) q l)) ≤ z := by
    pointwise [oAm]
    simp only [oB_apply O o hO, max_le_iff, absf_eq]
    simp only [Fin.forall_fin_succ, IsEmpty.forall_iff, and_true, and_assoc]
    rfl
  simp only [h]
  constructor
  · intro h k
    obtain ⟨p, l, rfl⟩ := at128_surj (n := 16) k
    exact h l p
  · exact fun h l p => h _

include hO in
/-- The codes' stores hold the rows' codes. -/
theorem c2L_holds : ∀ p ∈ c2L O, ∀ y : p.1.shape.Idx,
    p.2 y = (fun y : S16x320x128.Idx => qc (row o ⟨(y 1).val, by have := (y 1).isLt; simp at this; omega⟩) (at128 (n := 16) (y 0) (y 2))) (p.1.emb y) := by
  intro q hq
  simp only [c2L, mem_lst2, mem_lst] at hq
  obtain ⟨g, p, rfl⟩ := hq
  refine piece_ix3 (Val := Elt Ideal) (e := .fp8e4m3) (fun y0 y1 y2 => qc (row o ⟨y1.val, by omega⟩) (at128 (n := 16) y0 y2)) (in20 p g) _ ?_
  intro i j k y0 y1 y2 h0 h1 h2
  refine (blkCodes_apply _ _ j k i).trans ?_
  rw [oScale_apply O o hO, oB_apply O o hO]
  obtain rfl : y0 = p := Fin.ext (by omega)
  obtain rfl : y2 = k := Fin.ext (by omega)
  have : rowAt (m := 328) (by decide) g j = ⟨y1.val, by omega⟩ := Fin.ext (by simp only [rowAt]; omega)
  rw [this]; rfl

include hO in
/-- The scales' stores hold the rows' scales. -/
theorem s2L_holds : ∀ p ∈ s2L O, ∀ y : p.1.shape.Idx, p.2 y = (fun y : S328x128.Idx => qs (row o (y 0))) (p.1.emb y) := by
  intro q hq
  simp only [s2L, mem_lst] at hq
  obtain ⟨g, rfl⟩ := hq
  refine piece_ix2 (Val := Elt Ideal) (e := .f32) (fun y0 y1 => qs (row o y0)) (in7 g) _ ?_
  intro i j y0 y1 h0 h1
  refine (scaleStored_apply (blkScale (oAm O g)) i j).trans ?_
  rw [oScale_apply O o hO]
  have : rowAt (m := 328) (by decide) g i = y0 := Fin.ext (by simp only [rowAt]; omega)
  rw [this]

/-- The codes' stores cover the planes. -/
theorem c2L_covers (y0 : Fin 16) (y1 : Fin 320) (y2 : Fin 128) : ∃ p ∈ c2L O, ix3 y0 y1 y2 ∈ p.1.set := by
  refine ⟨_, mem_lst2.2 ⟨⟨y1.val / 32, by omega⟩, mem_lst.2 ⟨y0, rfl⟩⟩, mem_ix3 (in20 y0 ⟨y1.val / 32, by omega⟩) _ _ _ ?_ ?_ ?_⟩
  · exact ⟨le_rfl, Nat.lt_succ_self _⟩
  · exact ⟨by show 32 * (y1.val / 32) ≤ _; omega, by show _ < 32 * (y1.val / 32) + 32; omega⟩
  · exact ⟨Nat.zero_le _, by omega⟩

/-- The scales' stores cover the first 320 rows. -/
theorem s2L_covers (y0 : Fin 328) (y1 : Fin 128) (h : y0.val < 320) : ∃ p ∈ s2L O, ix2 y0 y1 ∈ p.1.set := by
  refine ⟨_, mem_lst.2 ⟨⟨y0.val / 32, by omega⟩, rfl⟩, mem_ix2 (in7 ⟨y0.val / 32, by omega⟩) _ _ ?_ ?_⟩
  · exact ⟨by show 32 * (y0.val / 32) ≤ _; omega, by show _ < 32 * (y0.val / 32) + 32; omega⟩
  · exact ⟨Nat.zero_le _, by omega⟩

end

/-- Planes side by side: a lane of a plane. -/
theorem cat16_apply (x : Fin 16 → FVec Ideal S320x128 .fp8e4m3) (r : Fin 320) (p : Fin 16) (l : Fin 128) :
    cat16 x (ix2 r (at128 (n := 16) p l)) = x p (ix2 r l) := by
  refine Idealize.ShloMosaic.concatenate_ofFn_apply (s₁ := S320x128) (t := S320x2048) 1 x
    concatenates_S320x128_S320x128_S320x128_S320x128_S320x128_S320x128_S320x128_S320x128_S320x128_S320x128_S320x128_S320x128_S320x128_S320x128_S320x128_S320x128_S320x2048_d1 rfl 128 rfl
    (ix2 r (at128 (n := 16) p l)) p ?_ (ix2 r l) ?_ ?_
  · show (128 * p.val + l.val) / 128 = p.val; omega
  · show l.val = (128 * p.val + l.val) % 128; omega
  · intro b hb
    match b with
    | ⟨0, _⟩ => rfl
    | ⟨1, _⟩ => exact absurd rfl hb

section
variable (lc : List (View.Piece (Elt Ideal) cc0_scratch20.ty.shape cc0_scratch20.ty.elt))
  (WO : Bf (F := Ideal) c (Memref.whole cc0_scratch18)) (SO : Bf (F := Ideal) c (Memref.whole cc0_scratch19))
  (cr : Fin 320 → Fin 2048 → EReal) (wo : Fin 2048 → Fin 1024 → EReal) (so : Fin 1024 → EReal)
  (hc : ∀ q r l, c2P lc q (ix2 r l) = cr r (at128 (n := 16) q l))
  (hWO : ∀ k j, View.read (Elt Ideal) (Memref.whole cc0_scratch18).view WO (ix2 k j) = wo k j)
  (hSO : ∀ j, View.read (Elt Ideal) (Memref.whole cc0_scratch19).view SO (ix2 0 j) = so j)

include hc in
theorem cat16_row (r : Fin 320) (k : Fin 2048) : cat16 (c2P lc) (ix2 r k) = cr r k := by
  obtain ⟨p, l, rfl⟩ := at128_surj (n := 16) k
  exact (cat16_apply _ r p l).trans (hc p r l)

include hc hWO in
theorem pAcc_apply (n : Fin 2) (r : Fin 320) (k : Fin 512) : pAcc lc WO n (ix2 r k) = ∑ q, cr r q * wo q (col512 n k) := by
  have hw (q : Fin 2048) : View.readAt (Elt Ideal) (Memref.whole cc0_scratch18).view (Rect.unit (s := S2048x1024) ![0, 512 * n.val] S2048x512.size (in18 n)).toLoadRect WO (ix2 q k)
      = wo q (col512 n k) := by
    rw [← hWO]
    exact readAt_ix2 _ _ (in18 n) q k q (col512 n k) (by simp) rfl
  have hx := cat16_row lc cr hc r
  unfold pAcc
  generalize View.readAt (Elt Ideal) (Memref.whole cc0_scratch18).view (Rect.unit (s := S2048x1024) ![0, 512 * n.val] S2048x512.size (in18 n)).toLoadRect WO = w at hw ⊢
  generalize cat16 (c2P lc) = x at hx ⊢
  pointwise
  refine Finset.sum_congr rfl fun q _ => ?_
  rw [hx, hw]

include hSO in
theorem soV_apply (n : Fin 2) (k : Fin 512) : soV SO n (ix2 0 k) = so (col512 n k) := by
  rw [← hSO]
  exact readAt_ix2 _ _ (in4 n) 0 _ 0 _ (by simp) rfl

end

/-- Plane `p` of the residual as it came in. -/
theorem xP_apply (X : Bf (F := Ideal) c (Memref.whole cc0_scratch5)) (x : S8x328x128.Idx → EReal)
    (hX : View.read (Elt Ideal) (Memref.whole cc0_scratch5).view X = x) (p : Fin 8) (r : Fin 320) (l : Fin 128) (h : r.val < 328) :
    xP X p (ix2 r l) = row x ⟨r.val, h⟩ (at128 (n := 8) p l) := by
  rw [row_at128, ← hX]
  exact (cast320 _ r l).trans (readAt_ix3 _ _ (in5f p) 0 r l p ⟨r.val, by omega⟩ l (by simp) (by simp) (by simp))

section
variable (lo : List (View.Piece (Elt Ideal) cc0_scratch5.ty.shape cc0_scratch5.ty.elt)) (x : S8x328x128.Idx → EReal)
  (hG : ∀ p ∈ lo, ∀ y : p.1.shape.Idx, p.2 y = (fun y : S8x328x128.Idx => row x (y 1) (at128 (n := 8) (y 0) (y 2))) (p.1.emb y))
  (hC : ∀ y0 (y1 : Fin 328) y2, y1.val < 320 → ∃ p ∈ lo, ix3 y0 y1 y2 ∈ p.1.set)

include hG hC in
/-- Plane `p` of the residual, read back. -/
theorem hP_apply (p : Fin 8) (r : Fin 320) (l : Fin 128) (h : r.val < 328) : hP lo p (ix2 r l) = row x ⟨r.val, h⟩ (at128 (n := 8) p l) :=
  (cast320 _ r l).trans (readCov_ix3 (Val := Elt Ideal) (e := .f32) _ lo (fun y0 y1 y2 => row x y1 (at128 (n := 8) y0 y2)) hG (in5f p) 0 r l p ⟨r.val, by omega⟩ l
    (hC _ _ _ r.isLt) (by simp) (by simp) (by simp))

include hG hC in
/-- Plane `p` of the rows of block `g`, read back. -/
theorem nX_apply (h : 320 ≤ 328) (p : Fin 8) (g : Fin 10) (i : Fin 32) (l : Fin 128) : nX lo p g (ix2 i l) = row x (rowAt h g i) (at128 (n := 8) p l) :=
  (cast32 _ i l).trans (readCov_ix3 (Val := Elt Ideal) (e := .f32) _ lo (fun y0 y1 y2 => row x y1 (at128 (n := 8) y0 y2)) hG (in5 p g) 0 i l p (rowAt (by decide) g i) l
    (hC _ _ _ (by simp only [rowAt]; omega)) (by simp) rfl (by simp))

end

end Cert.KernelIdeal.Hand
-- ==== Proof.KernelIdealStage.lean ====
module

public import proofs.«01_k».proof.Proof.KernelIdealOut

/-!
# What the results' staging buffers hold

Row `s` of sequence `b` is row `51 b + s` of the planes.
-/

@[expose] public section

noncomputable section

namespace Cert.KernelIdeal.Hand

open Cert.KernelIdeal Cert.KernelIdeal.Gen Cert.Ffn
open Idealize.ShloMosaic Idealize.ShloMosaic.TcCoe

/-- Row `s` of sequence `b`. -/
def rowB {m : ℕ} (h : 306 ≤ m) (b : Fin 6) (s : Fin 51) : Fin m := ⟨51 * b.val + s.val, by omega⟩

theorem rowsOf_apply (b : Fin 6) (x : FVec Ideal S320x128 .fp8e4m3) (z : Fin 1) (s : Fin 51) (l : Fin 128) :
    rowsOf b x (ix3 z s l) = x (ix2 (rowB (by decide) b s) l) := by
  obtain rfl : z = 0 := Subsingleton.elim _ _
  pointwise [rowsOf]
  rfl

theorem cast51 {e : EltTy} (v : Vec Ideal S1x51x128 e) (z : Fin 1) (s : Fin 51) (l : Fin 128) :
    shapeCast S1x51x128 (shapeCast S51x128 v shapeCasts_S1x51x128_S51x128) shapeCasts_S51x128_S1x51x128 (ix3 z s l) = v (ix3 0 s l) := by
  obtain rfl : z = 0 := Subsingleton.elim _ _
  pointwise

/-- Only the diagonal is kept. -/
theorem turn_apply (x : FVec Ideal S56x128 .f32) (z : Fin 1) (s : Fin 51) : turn x (ix2 z s) = x (ix2 ⟨s.val, by omega⟩ ⟨s.val, by omega⟩) := by
  obtain rfl : z = 0 := Subsingleton.elim _ _
  pointwise [turn]
  rw [Finset.sum_eq_single (⟨s.val, by omega⟩ : Fin 56)]
  · simp [IntOp.cmpi, Scalar.select]
  · intro i _ hi
    have h : ¬ (BitVec.ofNat 32 i.val = BitVec.ofNat 32 s.val) := by
      intro h
      have := congrArg BitVec.toNat h
      simp only [BitVec.toNat_ofNat] at this
      exact hi (Fin.ext (by simp only; omega))
    have h' : (BitVec.ofNat 32 i.val == BitVec.ofNat 32 s.val) = false := by simpa using h
    simp [IntOp.cmpi, Scalar.select, h']
  · intro h; exact absurd (Finset.mem_univ _) h

/-- The residual's staging stores hold row `51 b + s`. -/
theorem hstL_holds (lo l0 : List (View.Piece (Elt Ideal) cc0_scratch5.ty.shape cc0_scratch5.ty.elt)) (G : Fin 8 → Fin 328 → Fin 128 → EReal)
    (R : Fin 6 → Fin 51 → Fin 1024 → EReal)
    (hG : ∀ p ∈ lo, ∀ y : p.1.shape.Idx, p.2 y = (fun y : S8x328x128.Idx => G (y 0) (y 1) (y 2)) (p.1.emb y))
    (hC : ∀ y0 (y1 : Fin 328) y2, y1.val < 320 → ∃ p ∈ lo, ix3 y0 y1 y2 ∈ p.1.set)
    (hR : ∀ b s p l, G p (rowB (by decide) b s) l = R b s (at128 (n := 8) p l)) :
    ∀ p ∈ hstL (lo ++ l0), ∀ y : p.1.shape.Idx, p.2 y = (fun y : S6x51x1024.Idx => R (y 0) (y 1) (y 2)) (p.1.emb y) := by
  intro q hq
  simp only [hstL, mem_lst2, mem_lst] at hq
  obtain ⟨b, p, rfl⟩ := hq
  refine piece_ix3 (Val := Elt Ideal) (e := .f32) R (in12 b p) _ ?_
  intro i s l y0 y1 y2 h0 h1 h2
  refine (cast51 (e := .f32) ((Memref.whole cc0_scratch5).view.readCov (lo ++ l0) (Rect.unit (s := S8x328x128) ![p.val, 51 * b.val, 0] S1x51x128.size (in5s p b)).toLoadRect) i s l).trans ?_
  obtain rfl : y0 = b := Fin.ext (by omega)
  obtain rfl : y1 = s := Fin.ext (by omega)
  have e2 : y2 = at128 (n := 8) p l := Fin.ext (by simp only [at128]; omega)
  rw [e2, ← hR]
  exact readCov_ix3_append (Val := Elt Ideal) (e := .f32) _ lo l0 G hG (in5s p y0) 0 y1 l p (rowB (by decide) y0 y1) l (hC _ _ _ (by simp only [rowB]; omega)) (by simp) rfl (by simp)

/-- The norm's codes' staging stores hold row `51 b + s`. -/
theorem c3stL_holds (lc : List (View.Piece (Elt Ideal) cc0_scratch6.ty.shape cc0_scratch6.ty.elt)) (R : Fin 6 → Fin 51 → Fin 1024 → EReal)
    (hR : ∀ b s p l, c3P lc p (ix2 (rowB (by decide) b s) l) = R b s (at128 (n := 8) p l)) :
    ∀ p ∈ c3stL lc, ∀ y : p.1.shape.Idx, p.2 y = (fun y : S6x51x1024.Idx => R (y 0) (y 1) (y 2)) (p.1.emb y) := by
  intro q hq
  simp only [c3stL, mem_lst2, mem_lst] at hq
  obtain ⟨b, p, rfl⟩ := hq
  refine piece_ix3 (Val := Elt Ideal) (e := .fp8e4m3) R (in12 b p) _ ?_
  intro i s l y0 y1 y2 h0 h1 h2
  refine (rowsOf_apply b (c3P lc p) i s l).trans ?_
  obtain rfl : y0 = b := Fin.ext (by omega)
  obtain rfl : y1 = s := Fin.ext (by omega)
  have e2 : y2 = at128 (n := 8) p l := Fin.ext (by simp only [at128]; omega)
  rw [e2, ← hR]

/-- The hidden codes' staging stores hold row `51 b + s`. -/
theorem c4stL_holds (lc : List (View.Piece (Elt Ideal) cc0_scratch10.ty.shape cc0_scratch10.ty.elt)) (R : Fin 6 → Fin 51 → Fin 4096 → EReal)
    (hR : ∀ b s p l, c4P lc p (ix2 (rowB (by decide) b s) l) = R b s (at128 (n := 32) p l)) :
    ∀ p ∈ c4stL lc, ∀ y : p.1.shape.Idx, p.2 y = (fun y : S6x51x4096.Idx => R (y 0) (y 1) (y 2)) (p.1.emb y) := by
  intro q hq
  simp only [c4stL, mem_lst2, mem_lst] at hq
  obtain ⟨b, p, rfl⟩ := hq
  refine piece_ix3 (Val := Elt Ideal) (e := .fp8e4m3) R (in14 b p) _ ?_
  intro i s l y0 y1 y2 h0 h1 h2
  refine (rowsOf_apply b (c4P lc p) i s l).trans ?_
  obtain rfl : y0 = b := Fin.ext (by omega)
  obtain rfl : y1 = s := Fin.ext (by omega)
  have e2 : y2 = at128 (n := 32) p l := Fin.ext (by simp only [at128]; omega)
  rw [e2, ← hR]

/-- The attention output's codes' staging stores hold row `51 b + s`. -/
theorem c2stL_holds (lc : List (View.Piece (Elt Ideal) cc0_scratch20.ty.shape cc0_scratch20.ty.elt)) (R : Fin 6 → Fin 51 → Fin 2048 → EReal)
    (hR : ∀ b s p l, c2P lc p (ix2 (rowB (by decide) b s) l) = R b s (at128 (n := 16) p l)) :
    ∀ p ∈ c2stL lc, ∀ y : p.1.shape.Idx, p.2 y = (fun y : S6x51x2048.Idx => R (y 0) (y 1) (y 2)) (p.1.emb y) := by
  intro q hq
  simp only [c2stL, mem_lst2, mem_lst] at hq
  obtain ⟨b, p, rfl⟩ := hq
  refine piece_ix3 (Val := Elt Ideal) (e := .fp8e4m3) R (in22 b p) _ ?_
  intro i s l y0 y1 y2 h0 h1 h2
  refine (rowsOf_apply b (c2P lc p) i s l).trans ?_
  obtain rfl : y0 = b := Fin.ext (by omega)
  obtain rfl : y1 = s := Fin.ext (by omega)
  have e2 : y2 = at128 (n := 16) p l := Fin.ext (by simp only [at128]; omega)
  rw [e2, ← hR]

/-- The scales of fifty-six rows from row `51 b`, turned onto the lanes: scale `s` is that of row `51 b + s`. -/
theorem turned {κ : Kind} {sp : Space} (v : View sig κ sp S328x128 .f32) (ls : List (View.Piece (Elt Ideal) S328x128 .f32)) (G : Fin 328 → EReal) (R : Fin 6 → Fin 51 → EReal)
    (hG : ∀ p ∈ ls, ∀ y : p.1.shape.Idx, p.2 y = (fun y : S328x128.Idx => G (y 0)) (p.1.emb y))
    (hC : ∀ (y0 : Fin 328) y1, y0.val < 320 → ∃ p ∈ ls, ix2 y0 y1 ∈ p.1.set) (hR : ∀ b s, G (rowB (by decide) b s) = R b s)
    (b : Fin 6) (i : Fin 1) (s : Fin 51) (y0 : Fin 6) (y1 : Fin 51) (h0 : y0.val = b.val + i.val) (h1 : y1.val = 0 + s.val) :
    turn (F := Ideal) (v.readCov ls (Rect.unit (s := S328x128) ![51 * b.val, 0] S56x128.size (in7s b)).toLoadRect) (ix2 i s) = R y0 y1 := by
  refine (turn_apply (v.readCov ls (Rect.unit (s := S328x128) ![51 * b.val, 0] S56x128.size (in7s b)).toLoadRect) i s).trans ?_
  obtain rfl : y0 = b := Fin.ext (by omega)
  obtain rfl : y1 = s := Fin.ext (by omega)
  rw [← hR]
  exact readCov_ix2 (Val := Elt Ideal) (e := .f32) v ls (fun r _ => G r) hG (in7s y0) ⟨y1.val, by omega⟩ ⟨y1.val, by omega⟩ (rowB (by decide) y0 y1) ⟨y1.val, by omega⟩
    (hC _ _ (by simp only [rowB]; omega)) rfl (by simp)

/-- The norm's scales' staging stores hold those of row `51 b + s`. -/
theorem s3stL_holds (ls : List (View.Piece (Elt Ideal) cc0_scratch7.ty.shape cc0_scratch7.ty.elt)) (G : Fin 328 → EReal) (R : Fin 6 → Fin 51 → EReal)
    (hG : ∀ p ∈ ls, ∀ y : p.1.shape.Idx, p.2 y = (fun y : S328x128.Idx => G (y 0)) (p.1.emb y))
    (hC : ∀ (y0 : Fin 328) y1, y0.val < 320 → ∃ p ∈ ls, ix2 y0 y1 ∈ p.1.set) (hR : ∀ b s, G (rowB (by decide) b s) = R b s) :
    ∀ p ∈ s3stL ls, ∀ y : p.1.shape.Idx, p.2 y = (fun y : S6x51.Idx => R (y 0) (y 1)) (p.1.emb y) := by
  intro q hq
  simp only [s3stL, mem_lst] at hq
  obtain ⟨b, rfl⟩ := hq
  exact piece_ix2 (Val := Elt Ideal) (e := .f32) R (in15 b) _ (turned (Memref.whole cc0_scratch7).view ls G R hG hC hR b)

/-- The hidden scales' staging stores hold those of row `51 b + s`. -/
theorem s4stL_holds (ls : List (View.Piece (Elt Ideal) cc0_scratch11.ty.shape cc0_scratch11.ty.elt)) (G : Fin 328 → EReal) (R : Fin 6 → Fin 51 → EReal)
    (hG : ∀ p ∈ ls, ∀ y : p.1.shape.Idx, p.2 y = (fun y : S328x128.Idx => G (y 0)) (p.1.emb y))
    (hC : ∀ (y0 : Fin 328) y1, y0.val < 320 → ∃ p ∈ ls, ix2 y0 y1 ∈ p.1.set) (hR : ∀ b s, G (rowB (by decide) b s) = R b s) :
    ∀ p ∈ s4stL ls, ∀ y : p.1.shape.Idx, p.2 y = (fun y : S6x51.Idx => R (y 0) (y 1)) (p.1.emb y) := by
  intro q hq
  simp only [s4stL, mem_lst] at hq
  obtain ⟨b, rfl⟩ := hq
  exact piece_ix2 (Val := Elt Ideal) (e := .f32) R (in15 b) _ (turned (Memref.whole cc0_scratch11).view ls G R hG hC hR b)

/-- The attention output's scales' staging stores hold those of row `51 b + s`. -/
theorem s2stL_holds (ls : List (View.Piece (Elt Ideal) cc0_scratch21.ty.shape cc0_scratch21.ty.elt)) (G : Fin 328 → EReal) (R : Fin 6 → Fin 51 → EReal)
    (hG : ∀ p ∈ ls, ∀ y : p.1.shape.Idx, p.2 y = (fun y : S328x128.Idx => G (y 0)) (p.1.emb y))
    (hC : ∀ (y0 : Fin 328) y1, y0.val < 320 → ∃ p ∈ ls, ix2 y0 y1 ∈ p.1.set) (hR : ∀ b s, G (rowB (by decide) b s) = R b s) :
    ∀ p ∈ s2stL ls, ∀ y : p.1.shape.Idx, p.2 y = (fun y : S6x51.Idx => R (y 0) (y 1)) (p.1.emb y) := by
  intro q hq
  simp only [s2stL, mem_lst] at hq
  obtain ⟨b, rfl⟩ := hq
  exact piece_ix2 (Val := Elt Ideal) (e := .f32) R (in15 b) _ (turned (Memref.whole cc0_scratch21).view ls G R hG hC hR b)

/-- The staging stores cover their buffers. -/
theorem hstL_covers (lo : List (View.Piece (Elt Ideal) cc0_scratch5.ty.shape cc0_scratch5.ty.elt)) (y0 : Fin 6) (y1 : Fin 51) (y2 : Fin 1024) :
    ∃ p ∈ hstL lo, ix3 y0 y1 y2 ∈ p.1.set := by
  refine ⟨_, mem_lst2.2 ⟨y0, mem_lst.2 ⟨⟨y2.val / 128, by omega⟩, rfl⟩⟩, mem_ix3 (in12 y0 ⟨y2.val / 128, by omega⟩) _ _ _ ?_ ?_ ?_⟩
  · exact ⟨le_rfl, Nat.lt_succ_self _⟩
  · exact ⟨Nat.zero_le _, by omega⟩
  · exact ⟨by show 128 * (y2.val / 128) ≤ _; omega, by show _ < 128 * (y2.val / 128) + 128; omega⟩

theorem c3stL_covers (lc : List (View.Piece (Elt Ideal) cc0_scratch6.ty.shape cc0_scratch6.ty.elt)) (y0 : Fin 6) (y1 : Fin 51) (y2 : Fin 1024) :
    ∃ p ∈ c3stL lc, ix3 y0 y1 y2 ∈ p.1.set := by
  refine ⟨_, mem_lst2.2 ⟨y0, mem_lst.2 ⟨⟨y2.val / 128, by omega⟩, rfl⟩⟩, mem_ix3 (in12 y0 ⟨y2.val / 128, by omega⟩) _ _ _ ?_ ?_ ?_⟩
  · exact ⟨le_rfl, Nat.lt_succ_self _⟩
  · exact ⟨Nat.zero_le _, by omega⟩
  · exact ⟨by show 128 * (y2.val / 128) ≤ _; omega, by show _ < 128 * (y2.val / 128) + 128; omega⟩

theorem c4stL_covers (lc : List (View.Piece (Elt Ideal) cc0_scratch10.ty.shape cc0_scratch10.ty.elt)) (y0 : Fin 6) (y1 : Fin 51) (y2 : Fin 4096) :
    ∃ p ∈ c4stL lc, ix3 y0 y1 y2 ∈ p.1.set := by
  refine ⟨_, mem_lst2.2 ⟨y0, mem_lst.2 ⟨⟨y2.val / 128, by omega⟩, rfl⟩⟩, mem_ix3 (in14 y0 ⟨y2.val / 128, by omega⟩) _ _ _ ?_ ?_ ?_⟩
  · exact ⟨le_rfl, Nat.lt_succ_self _⟩
  · exact ⟨Nat.zero_le _, by omega⟩
  · exact ⟨by show 128 * (y2.val / 128) ≤ _; omega, by show _ < 128 * (y2.val / 128) + 128; omega⟩

theorem c2stL_covers (lc : List (View.Piece (Elt Ideal) cc0_scratch20.ty.shape cc0_scratch20.ty.elt)) (y0 : Fin 6) (y1 : Fin 51) (y2 : Fin 2048) :
    ∃ p ∈ c2stL lc, ix3 y0 y1 y2 ∈ p.1.set := by
  refine ⟨_, mem_lst2.2 ⟨y0, mem_lst.2 ⟨⟨y2.val / 128, by omega⟩, rfl⟩⟩, mem_ix3 (in22 y0 ⟨y2.val / 128, by omega⟩) _ _ _ ?_ ?_ ?_⟩
  · exact ⟨le_rfl, Nat.lt_succ_self _⟩
  · exact ⟨Nat.zero_le _, by omega⟩
  · exact ⟨by show 128 * (y2.val / 128) ≤ _; omega, by show _ < 128 * (y2.val / 128) + 128; omega⟩

theorem s3stL_covers (ls : List (View.Piece (Elt Ideal) cc0_scratch7.ty.shape cc0_scratch7.ty.elt)) (y0 : Fin 6) (y1 : Fin 51) :
    ∃ p ∈ s3stL ls, ix2 y0 y1 ∈ p.1.set := by
  refine ⟨_, mem_lst.2 ⟨y0, rfl⟩, mem_ix2 (in15 y0) _ _ ?_ ?_⟩
  · exact ⟨le_rfl, Nat.lt_succ_self _⟩
  · exact ⟨Nat.zero_le _, by omega⟩

theorem s4stL_covers (ls : List (View.Piece (Elt Ideal) cc0_scratch11.ty.shape cc0_scratch11.ty.elt)) (y0 : Fin 6) (y1 : Fin 51) :
    ∃ p ∈ s4stL ls, ix2 y0 y1 ∈ p.1.set := by
  refine ⟨_, mem_lst.2 ⟨y0, rfl⟩, mem_ix2 (in15 y0) _ _ ?_ ?_⟩
  · exact ⟨le_rfl, Nat.lt_succ_self _⟩
  · exact ⟨Nat.zero_le _, by omega⟩

theorem s2stL_covers (ls : List (View.Piece (Elt Ideal) cc0_scratch21.ty.shape cc0_scratch21.ty.elt)) (y0 : Fin 6) (y1 : Fin 51) :
    ∃ p ∈ s2stL ls, ix2 y0 y1 ∈ p.1.set := by
  refine ⟨_, mem_lst.2 ⟨y0, rfl⟩, mem_ix2 (in15 y0) _ _ ?_ ?_⟩
  · exact ⟨le_rfl, Nat.lt_succ_self _⟩
  · exact ⟨Nat.zero_le _, by omega⟩

end Cert.KernelIdeal.Hand
-- ==== Proof.Layer.lean ====
module

public import proofs.«01_k».proof.Proof.Spec

/-!
# The seven results of the layer after attention, as functions of the nine arguments

Row `s` of sequence `b` of each result comes from row `s` of sequence `b` of the residual and of the attention output.
-/

@[expose] public section

noncomputable section

namespace Cert.Ffn

open Idealize.ShloMosaic

/-- A row of the residual. -/
def lrow (a0 : (⟨3, ![6, 51, 1024]⟩ : Shape).Idx → EReal) (b : Fin 6) (s : Fin 51) (k : Fin 1024) : EReal := a0 (ix3 b s k)
/-- The norm's weight. -/
def lw (a1 : (⟨2, ![1, 1024]⟩ : Shape).Idx → EReal) (k : Fin 1024) : EReal := a1 (ix2 0 k)
/-- The gate's and the up projection's weights. -/
def lgu (a2 : (⟨4, ![1, 2, 1024, 4096]⟩ : Shape).Idx → EReal) (i : Fin 2) (k : Fin 1024) (j : Fin 4096) : EReal := a2 (ix4 0 i k j)
/-- Their scales. -/
def lsg (a3 : (⟨3, ![1, 2, 4096]⟩ : Shape).Idx → EReal) (i : Fin 2) (j : Fin 4096) : EReal := a3 (ix3 0 i j)
/-- The down projection's weight. -/
def ldn (a4 : (⟨3, ![1, 4096, 1024]⟩ : Shape).Idx → EReal) (k : Fin 4096) (j : Fin 1024) : EReal := a4 (ix3 0 k j)
/-- Its scales. -/
def lsd (a5 : (⟨2, ![1, 1024]⟩ : Shape).Idx → EReal) (j : Fin 1024) : EReal := a5 (ix2 0 j)

/-- A row of the attention output. -/
def lo (a6 : (⟨3, ![6, 51, 2048]⟩ : Shape).Idx → EReal) (b : Fin 6) (s : Fin 51) (k : Fin 2048) : EReal := a6 (ix3 b s k)
/-- The output weight. -/
def lwo (a7 : (⟨3, ![1, 2048, 1024]⟩ : Shape).Idx → EReal) (k : Fin 2048) (j : Fin 1024) : EReal := a7 (ix3 0 k j)
/-- Its scales. -/
def lso (a8 : (⟨2, ![1, 1024]⟩ : Shape).Idx → EReal) (j : Fin 1024) : EReal := a8 (ix2 0 j)

/-- The residual after the output product. -/
def midA (a0 : (⟨3, ![6, 51, 1024]⟩ : Shape).Idx → EReal) (a6 : (⟨3, ![6, 51, 2048]⟩ : Shape).Idx → EReal) (a7 : (⟨3, ![1, 2048, 1024]⟩ : Shape).Idx → EReal)
    (a8 : (⟨2, ![1, 1024]⟩ : Shape).Idx → EReal) (y : (⟨3, ![6, 51, 1024]⟩ : Shape).Idx) : EReal :=
  mid (lrow a0 (y 0) (y 1)) (lo a6 (y 0) (y 1)) (lwo a7) (lso a8) (y 2)
/-- The attention output's codes. -/
def outC2 (a6 : (⟨3, ![6, 51, 2048]⟩ : Shape).Idx → EReal) (y : (⟨3, ![6, 51, 2048]⟩ : Shape).Idx) : EReal := qc (lo a6 (y 0) (y 1)) (y 2)
/-- The attention output's scales. -/
def outS2 (a6 : (⟨3, ![6, 51, 2048]⟩ : Shape).Idx → EReal) (y : (⟨2, ![6, 51]⟩ : Shape).Idx) : EReal := qs (lo a6 (y 0) (y 1))

variable (a0 : (⟨3, ![6, 51, 1024]⟩ : Shape).Idx → EReal) (a1 : (⟨2, ![1, 1024]⟩ : Shape).Idx → EReal)
  (a2 : (⟨4, ![1, 2, 1024, 4096]⟩ : Shape).Idx → EReal) (a3 : (⟨3, ![1, 2, 4096]⟩ : Shape).Idx → EReal)
  (a4 : (⟨3, ![1, 4096, 1024]⟩ : Shape).Idx → EReal) (a5 : (⟨2, ![1, 1024]⟩ : Shape).Idx → EReal)

/-- The new residual. -/
def outH (y : (⟨3, ![6, 51, 1024]⟩ : Shape).Idx) : EReal := res (lrow a0 (y 0) (y 1)) (lw a1) (lgu a2) (lsg a3) (ldn a4) (lsd a5) (y 2)
/-- The norm's codes. -/
def outC3 (y : (⟨3, ![6, 51, 1024]⟩ : Shape).Idx) : EReal := c3 (lrow a0 (y 0) (y 1)) (lw a1) (y 2)
/-- The norm's scales. -/
def outS3 (y : (⟨2, ![6, 51]⟩ : Shape).Idx) : EReal := s3 (lrow a0 (y 0) (y 1)) (lw a1)
/-- The hidden codes. -/
def outC4 (y : (⟨3, ![6, 51, 4096]⟩ : Shape).Idx) : EReal := c4 (lrow a0 (y 0) (y 1)) (lw a1) (lgu a2) (lsg a3) (y 2)
/-- The hidden scales. -/
def outS4 (y : (⟨2, ![6, 51]⟩ : Shape).Idx) : EReal := s4 (lrow a0 (y 0) (y 1)) (lw a1) (lgu a2) (lsg a3)

end Cert.Ffn
-- ==== Proof.KernelIdealEntry.lean ====
module

public import proofs.«01_k».proof.Proof.KernelIdealLaunch
public import proofs.«01_k».proof.Proof.KernelIdealStage
public import proofs.«01_k».proof.Proof.Layer
public import Idealize.ShloMosaic.Lib.Claim

/-!
# What the call reads

The host pads the residual's rows, cuts them into planes and drops unit axes of the weights.
-/

@[expose] public section

noncomputable section

namespace Cert.KernelIdeal.Hand

open Cert.KernelIdeal Cert.KernelIdeal.Gen Cert.Ffn
open Idealize.ShloMosaic Idealize.ShloMosaic.TcCoe

variable (m : (ℓ : Loc nD τ sig) → Buf (Elt Ideal) ℓ) (c : Dev nD)

theorem V_v3 : V m c main_v3 = transpose S8x328x128 [1, 0, 2] (shapeCast S328x8x128
    (pad S328x1024 ![0, 0] ![22, 0] ![0, 0] (shapeCast S306x1024 (m ((c : Thread nD τ).loc main_arg0) : FVec Ideal S6x51x1024 .f32) shapeCasts_S6x51x1024_S306x1024)
      (sitofp (F := Ideal) .f32 (constantI S_ 32 0#32)) pads_S306x1024_S328x1024_0220_000 h_S_)
    shapeCasts_S328x1024_S328x8x128) transposes_S328x8x128_S8x328x128_1_0_2 := by
  entry_read
  rfl

theorem V_v4 : V m c main_v4 = shapeCast S2x1024x4096 (m ((c : Thread nD τ).loc main_arg2)) shapeCasts_S1x2x1024x4096_S2x1024x4096 := by
  entry_read
  rfl

theorem V_v5 : V m c main_v5 = shapeCast S2x4096 (m ((c : Thread nD τ).loc main_arg3)) shapeCasts_S1x2x4096_S2x4096 := by
  entry_read
  rfl

theorem V_v6 : V m c main_v6 = shapeCast S4096x1024 (m ((c : Thread nD τ).loc main_arg4)) shapeCasts_S1x4096x1024_S4096x1024 := by
  entry_read
  rfl

theorem V_v10 : V m c main_v10 = transpose S16x328x128 [1, 0, 2] (shapeCast S328x16x128
    (pad S328x2048 ![0, 0] ![22, 0] ![0, 0] (shapeCast S306x2048 (m ((c : Thread nD τ).loc main_arg6) : FVec Ideal S6x51x2048 .f32) shapeCasts_S6x51x2048_S306x2048)
      (sitofp (F := Ideal) .f32 (constantI S_ 32 0#32)) pads_S306x2048_S328x2048_0220_000 h_S_)
    shapeCasts_S328x2048_S328x16x128) transposes_S328x16x128_S16x328x128_1_0_2 := by
  entry_read
  rfl

theorem V_v11 : V m c main_v11 = shapeCast S2048x1024 (m ((c : Thread nD τ).loc main_arg7)) shapeCasts_S1x2048x1024_S2048x1024 := by
  entry_read
  rfl

/-- Row `51 b + s` of the planes is row `s` of sequence `b`. -/
theorem planes_apply (a : FVec Ideal S6x51x1024 .f32) (v : FVec Ideal S_ .f32) (p : Fin 8) (b : Fin 6) (s : Fin 51) (l : Fin 128) :
    transpose S8x328x128 [1, 0, 2] (shapeCast S328x8x128
      (pad S328x1024 ![0, 0] ![22, 0] ![0, 0] (shapeCast S306x1024 a shapeCasts_S6x51x1024_S306x1024) v pads_S306x1024_S328x1024_0220_000 h_S_)
      shapeCasts_S328x1024_S328x8x128) transposes_S328x8x128_S8x328x128_1_0_2 (ix3 p (rowB (by decide) b s) l) = a (ix3 b s (at128 (n := 8) p l)) := by
  pointwise
  rw [dif_pos ⟨by simp only [rowB]; omega, by omega⟩]
  congr 2 <;> refine Fin.ext ?_ <;> simp only [rowB, at128] <;> omega

/-- Row `51 b + s` of the attention output's planes is row `s` of sequence `b`. -/
theorem oPlanes_apply (a : FVec Ideal S6x51x2048 .f32) (v : FVec Ideal S_ .f32) (p : Fin 16) (b : Fin 6) (s : Fin 51) (l : Fin 128) :
    transpose S16x328x128 [1, 0, 2] (shapeCast S328x16x128
      (pad S328x2048 ![0, 0] ![22, 0] ![0, 0] (shapeCast S306x2048 a shapeCasts_S6x51x2048_S306x2048) v pads_S306x2048_S328x2048_0220_000 h_S_)
      shapeCasts_S328x2048_S328x16x128) transposes_S328x16x128_S16x328x128_1_0_2 (ix3 p (rowB (by decide) b s) l) = a (ix3 b s (at128 (n := 16) p l)) := by
  pointwise
  rw [dif_pos ⟨by simp only [rowB]; omega, by omega⟩]
  congr 2 <;> refine Fin.ext ?_ <;> simp only [rowB, at128] <;> omega

theorem gu_apply (a : FVec Ideal S1x2x1024x4096 .fp8e4m3) (i : Fin 2) (k : Fin 1024) (j : Fin 4096) :
    shapeCast S2x1024x4096 a shapeCasts_S1x2x1024x4096_S2x1024x4096 (ix3 i k j) = a (ix4 0 i k j) := by
  pointwise

theorem sg_apply (a : FVec Ideal S1x2x4096 .f32) (i : Fin 2) (j : Fin 4096) : shapeCast S2x4096 a shapeCasts_S1x2x4096_S2x4096 (ix2 i j) = a (ix3 0 i j) := by
  pointwise

theorem dn_apply (a : FVec Ideal S1x4096x1024 .fp8e4m3) (k : Fin 4096) (j : Fin 1024) :
    shapeCast S4096x1024 a shapeCasts_S1x4096x1024_S4096x1024 (ix2 k j) = a (ix3 0 k j) := by
  pointwise

theorem wo_apply (a : FVec Ideal S1x2048x1024 .fp8e4m3) (k : Fin 2048) (j : Fin 1024) :
    shapeCast S2048x1024 a shapeCasts_S1x2048x1024_S2048x1024 (ix2 k j) = a (ix3 0 k j) := by
  pointwise

/-- The planes' rows are the residual's rows. -/
theorem row_v3 (b : Fin 6) (s : Fin 51) : row (n := 8) (m := 328) (V m c main_v3) (rowB (by decide) b s) = lrow (m ((c : Thread nD τ).loc main_arg0)) b s := by
  funext k
  obtain ⟨p, l, rfl⟩ := at128_surj (n := 8) k
  rw [row_at128, V_v3]
  exact planes_apply _ _ p b s l

/-- The attention output's planes' rows are its rows. -/
theorem row_v10 (b : Fin 6) (s : Fin 51) : row (n := 16) (m := 328) (V m c main_v10) (rowB (by decide) b s) = lo (m ((c : Thread nD τ).loc main_arg6)) b s := by
  funext k
  obtain ⟨p, l, rfl⟩ := at128_surj (n := 16) k
  rw [row_at128, V_v10]
  exact oPlanes_apply _ _ p b s l

end Cert.KernelIdeal.Hand
-- ==== Proof.KernelIdealLists.lean ====
module

public import proofs.«01_k».proof.Proof.KernelIdealPieces

/-!
# The run's stores are the stores written block by block

Each list of stores the run of the body names, and each of the results' contents, is the corresponding list of
`KernelIdealPieces`: both unfold to the same term.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] (c : Dev nD)
  (f0 : Bf (F := F) c (Memref.whole main_v3)) (f1 : Bf (F := F) c (Memref.whole main_arg1))
  (f2 : Bf (F := F) c (Memref.whole main_v4)) (f3 : Bf (F := F) c (Memref.whole main_v5))
  (f4 : Bf (F := F) c (Memref.whole main_v6)) (f5 : Bf (F := F) c (Memref.whole main_arg5))
  (s0 : Bf (F := F) c (Memref.whole cc0_scratch0)) (s1 : Bf (F := F) c (Memref.whole cc0_scratch1))
  (s2 : Bf (F := F) c (Memref.whole cc0_scratch2)) (s3 : Bf (F := F) c (Memref.whole cc0_scratch3))
  (f6 : Bf (F := F) c (Memref.whole main_v10)) (f7 : Bf (F := F) c (Memref.whole main_v11))
  (f8 : Bf (F := F) c (Memref.whole main_arg8))
  (s4 : Bf (F := F) c (Memref.whole cc0_scratch4)) (s5 : Bf (F := F) c (Memref.whole cc0_scratch5))
  (s17 : Bf (F := F) c (Memref.whole cc0_scratch17)) (s18 : Bf (F := F) c (Memref.whole cc0_scratch18))
  (s19 : Bf (F := F) c (Memref.whole cc0_scratch19))

/-- The residual's planes, as the copy leaves them. -/
def inX : Bf (F := F) c (Memref.whole cc0_scratch5) :=
  View.write (Elt F) (Memref.whole cc0_scratch5).view s5 (ReadAs.same.apply (View.read (Elt F) (Memref.whole main_v3).view f0)) Finset.univ
/-- The norm's weight, as the copy leaves it. -/
def inW : Bf (F := F) c (Memref.whole cc0_scratch0) :=
  View.write (Elt F) (Memref.whole cc0_scratch0).view s0 (ReadAs.same.apply (View.read (Elt F) (Memref.whole main_arg1).view f1)) Finset.univ
/-- The gate and up weights, as the copy leaves them. -/
def inGU : Bf (F := F) c (Memref.whole cc0_scratch1) :=
  View.write (Elt F) (Memref.whole cc0_scratch1).view s1 (ReadAs.same.apply (View.read (Elt F) (Memref.whole main_v4).view f2)) Finset.univ
/-- The gate and up weights' scales, as the copy leaves them. -/
def inSG : Bf (F := F) c (Memref.whole cc0_scratch2) :=
  View.write (Elt F) (Memref.whole cc0_scratch2).view s2 (ReadAs.same.apply (View.read (Elt F) (Memref.whole main_v5).view f3)) Finset.univ
/-- The down weight, as the copy leaves it. -/
def inDN : Bf (F := F) c (Memref.whole cc0_scratch3) :=
  View.write (Elt F) (Memref.whole cc0_scratch3).view s3 (ReadAs.same.apply (View.read (Elt F) (Memref.whole main_v6).view f4)) Finset.univ
/-- The down weight's scales, as the copy leaves them. -/
def inSD : Bf (F := F) c (Memref.whole cc0_scratch4) :=
  View.write (Elt F) (Memref.whole cc0_scratch4).view s4 (ReadAs.same.apply (View.read (Elt F) (Memref.whole main_arg5).view f5)) Finset.univ

/-- The attention output's planes, as the copy leaves them. -/
def inO : Bf (F := F) c (Memref.whole cc0_scratch17) :=
  View.write (Elt F) (Memref.whole cc0_scratch17).view s17 (ReadAs.same.apply (View.read (Elt F) (Memref.whole main_v10).view f6)) Finset.univ
/-- The output weight, as the copy leaves it. -/
def inWO : Bf (F := F) c (Memref.whole cc0_scratch18) :=
  View.write (Elt F) (Memref.whole cc0_scratch18).view s18 (ReadAs.same.apply (View.read (Elt F) (Memref.whole main_v11).view f7)) Finset.univ
/-- The output weight's scales, as the copy leaves them. -/
def inSO : Bf (F := F) c (Memref.whole cc0_scratch19) :=
  View.write (Elt F) (Memref.whole cc0_scratch19).view s19 (ReadAs.same.apply (View.read (Elt F) (Memref.whole main_arg8).view f8)) Finset.univ

theorem s2_list : kernelRun.sl.S21_10 c f6 s17 = s2L (inO c f6 s17) := by sl_kernel_rfl

theorem c2_list : kernelRun.sl.S20_160 c f6 s17 = c2L (inO c f6 s17) := by sl_kernel_rfl

theorem mid_list : kernelRun.sl.S5_8 c f0 f6 f7 f8 s5 s17 s18 s19 =
    outL (xP (inX c f0 s5)) (pAcc (kernelRun.sl.S20_160 c f6 s17) (inWO c f7 s18)) (s2V (kernelRun.sl.S21_10 c f6 s17)) (soV (inSO c f8 s19)) := by
  sl_kernel_rfl

theorem c2st_list : kernelRun.sl.S22_96 c f6 s17 = c2stL (kernelRun.sl.S20_160 c f6 s17) := by sl_kernel_rfl

theorem s2st_list : kernelRun.sl.S23_6 c f6 s17 = s2stL (kernelRun.sl.S21_10 c f6 s17) := by sl_kernel_rfl

theorem s3_list : kernelRun.sl.S7_10 c f0 f1 f6 f7 f8 s0 s5 s17 s18 s19 = s3L (kernelRun.sl.S5_8 c f0 f6 f7 f8 s5 s17 s18 s19) (inW c f1 s0) := by sl_kernel_rfl

theorem c3_list : kernelRun.sl.S6_80 c f0 f1 f6 f7 f8 s0 s5 s17 s18 s19 = c3L (kernelRun.sl.S5_8 c f0 f6 f7 f8 s5 s17 s18 s19) (inW c f1 s0) := by sl_kernel_rfl

theorem hid_list : kernelRun.sl.S8_32 c f0 f1 f2 f3 f6 f7 f8 s0 s1 s2 s5 s17 s18 s19 =
    hidL (kernelRun.sl.S6_80 c f0 f1 f6 f7 f8 s0 s5 s17 s18 s19) (kernelRun.sl.S7_10 c f0 f1 f6 f7 f8 s0 s5 s17 s18 s19) (inGU c f2 s1) (inSG c f3 s2) := by sl_kernel_rfl

theorem am_list : kernelRun.sl.S9_17 c f0 f1 f2 f3 f6 f7 f8 s0 s1 s2 s5 s17 s18 s19 =
    amL (kernelRun.sl.S6_80 c f0 f1 f6 f7 f8 s0 s5 s17 s18 s19) (kernelRun.sl.S7_10 c f0 f1 f6 f7 f8 s0 s5 s17 s18 s19) (inGU c f2 s1) (inSG c f3 s2) 16 (Nat.le_refl 16) := by sl_kernel_rfl

theorem c4_list : kernelRun.sl.S10_320 c f0 f1 f2 f3 f6 f7 f8 s0 s1 s2 s5 s17 s18 s19 =
    c4L (kernelRun.sl.S8_32 c f0 f1 f2 f3 f6 f7 f8 s0 s1 s2 s5 s17 s18 s19) (kernelRun.sl.S9_17 c f0 f1 f2 f3 f6 f7 f8 s0 s1 s2 s5 s17 s18 s19) := by sl_kernel_rfl

theorem s4_list : kernelRun.sl.S11_10 c f0 f1 f2 f3 f6 f7 f8 s0 s1 s2 s5 s17 s18 s19 = s4L (kernelRun.sl.S9_17 c f0 f1 f2 f3 f6 f7 f8 s0 s1 s2 s5 s17 s18 s19) := by sl_kernel_rfl

/-- Quarter `j` of column block `n` of the new residual, as stored. -/
def outP (n : Fin 2) (j : Fin 4) (v : FVec F S320x128 .f32) (acc : FVec F S320x512 .f32) (s : FVec F S320x128 .f32) (u : FVec F S1x512 .f32) :
    View.Piece (Elt F) cc0_scratch5.ty.shape cc0_scratch5.ty.elt :=
  ⟨Rect.unit (s := S8x328x128) ![(oplane n j).val, 0, 0] S1x320x128.size (in5f (oplane n j)), shapeCast S1x320x128 (outV v acc s u j) shapeCasts_S320x128_S1x320x128⟩

/-- The first `k` stores of the new residual after those of `H`; each reads its plane just before it is stored. -/
def outR (H : List (View.Piece (Elt F) cc0_scratch5.ty.shape cc0_scratch5.ty.elt)) (acc : Fin 2 → FVec F S320x512 .f32) (s : FVec F S320x128 .f32) (u : Fin 2 → FVec F S1x512 .f32) (k : ℕ) :
    List (View.Piece (Elt F) cc0_scratch5.ty.shape cc0_scratch5.ty.elt) :=
  Nat.rec H (fun k L =>
    outP ⟨k / 4 % 2, Nat.mod_lt _ (by decide)⟩ ⟨k % 4, Nat.mod_lt _ (by decide)⟩ (hP L (oplane ⟨k / 4 % 2, Nat.mod_lt _ (by decide)⟩ ⟨k % 4, Nat.mod_lt _ (by decide)⟩))
      (acc ⟨k / 4 % 2, Nat.mod_lt _ (by decide)⟩) s (u ⟨k / 4 % 2, Nat.mod_lt _ (by decide)⟩) :: L) k

theorem out_list : kernelRun.sl.S5_16 c f0 f1 f2 f3 f4 f5 f6 f7 f8 s0 s1 s2 s3 s4 s5 s17 s18 s19 =
    outR (kernelRun.sl.S5_8 c f0 f6 f7 f8 s5 s17 s18 s19) (dAcc (kernelRun.sl.S10_320 c f0 f1 f2 f3 f6 f7 f8 s0 s1 s2 s5 s17 s18 s19) (inDN c f4 s3)) (s4V (kernelRun.sl.S11_10 c f0 f1 f2 f3 f6 f7 f8 s0 s1 s2 s5 s17 s18 s19))
      (sdV (inSD c f5 s4)) 8 := by
  sl_kernel_rfl

theorem hst_list : kernelRun.sl.S12_48 c f0 f1 f2 f3 f4 f5 f6 f7 f8 s0 s1 s2 s3 s4 s5 s17 s18 s19 = hstL (kernelRun.sl.S5_16 c f0 f1 f2 f3 f4 f5 f6 f7 f8 s0 s1 s2 s3 s4 s5 s17 s18 s19) := by sl_kernel_rfl

theorem c3st_list : kernelRun.sl.S13_48 c f0 f1 f6 f7 f8 s0 s5 s17 s18 s19 = c3stL (kernelRun.sl.S6_80 c f0 f1 f6 f7 f8 s0 s5 s17 s18 s19) := by sl_kernel_rfl

theorem c4st_list : kernelRun.sl.S14_192 c f0 f1 f2 f3 f6 f7 f8 s0 s1 s2 s5 s17 s18 s19 = c4stL (kernelRun.sl.S10_320 c f0 f1 f2 f3 f6 f7 f8 s0 s1 s2 s5 s17 s18 s19) := by sl_kernel_rfl

theorem s3st_list : kernelRun.sl.S15_6 c f0 f1 f6 f7 f8 s0 s5 s17 s18 s19 = s3stL (kernelRun.sl.S7_10 c f0 f1 f6 f7 f8 s0 s5 s17 s18 s19) := by sl_kernel_rfl

theorem s4st_list : kernelRun.sl.S16_6 c f0 f1 f2 f3 f6 f7 f8 s0 s1 s2 s5 s17 s18 s19 = s4stL (kernelRun.sl.S11_10 c f0 f1 f2 f3 f6 f7 f8 s0 s1 s2 s5 s17 s18 s19) := by sl_kernel_rfl

end Cert.KernelIdeal.Hand
-- ==== Proof.KernelIdealRaw.lean ====
module

public import proofs.«01_k».proof.Proof.KernelIdealRun
public import Idealize.ShloMosaic.Lib.Tactic

/-!
# The results as the run leaves them

Each result is the array its staging buffer holds when it is copied out.
-/

@[expose] public section

set_option maxRecDepth 16384

noncomputable section

namespace Cert.KernelIdeal.Hand

open Cert.KernelIdeal Cert.KernelIdeal.Gen
open Idealize.ShloMosaic Idealize.ShloMosaic.TcCoe

section
variable {F : FTy → Type} [FloatOps F] (c : Dev nD)
  (f0 : Bf (F := F) c (Memref.whole main_v3))
  (f1 : Bf (F := F) c (Memref.whole main_arg1))
  (f2 : Bf (F := F) c (Memref.whole main_v4))
  (f3 : Bf (F := F) c (Memref.whole main_v5))
  (f4 : Bf (F := F) c (Memref.whole main_v6))
  (f5 : Bf (F := F) c (Memref.whole main_arg5))
  (f6 : Bf (F := F) c (Memref.whole main_v10))
  (f7 : Bf (F := F) c (Memref.whole main_v11))
  (f8 : Bf (F := F) c (Memref.whole main_arg8))
  (s0 : Bf (F := F) c (Memref.whole cc0_scratch0))
  (s1 : Bf (F := F) c (Memref.whole cc0_scratch1))
  (s2 : Bf (F := F) c (Memref.whole cc0_scratch2))
  (s3 : Bf (F := F) c (Memref.whole cc0_scratch3))
  (s4 : Bf (F := F) c (Memref.whole cc0_scratch4))
  (s5 : Bf (F := F) c (Memref.whole cc0_scratch5))
  (s6 : Bf (F := F) c (Memref.whole cc0_scratch6))
  (s7 : Bf (F := F) c (Memref.whole cc0_scratch7))
  (s8 : Bf (F := F) c (Memref.whole cc0_scratch8))
  (s9 : Bf (F := F) c (Memref.whole cc0_scratch9))
  (s10 : Bf (F := F) c (Memref.whole cc0_scratch10))
  (s11 : Bf (F := F) c (Memref.whole cc0_scratch11))
  (s12 : Bf (F := F) c (Memref.whole cc0_scratch12))
  (s13 : Bf (F := F) c (Memref.whole cc0_scratch13))
  (s14 : Bf (F := F) c (Memref.whole cc0_scratch14))
  (s15 : Bf (F := F) c (Memref.whole cc0_scratch15))
  (s16 : Bf (F := F) c (Memref.whole cc0_scratch16))
  (s17 : Bf (F := F) c (Memref.whole cc0_scratch17))
  (s18 : Bf (F := F) c (Memref.whole cc0_scratch18))
  (s19 : Bf (F := F) c (Memref.whole cc0_scratch19))
  (s20 : Bf (F := F) c (Memref.whole cc0_scratch20))
  (s21 : Bf (F := F) c (Memref.whole cc0_scratch21))
  (s22 : Bf (F := F) c (Memref.whole cc0_scratch22))
  (s23 : Bf (F := F) c (Memref.whole cc0_scratch23))
  (o0 : Bf (F := F) c (Memref.whole main_v12_0))
  (o1 : Bf (F := F) c (Memref.whole main_v12_1))
  (o2 : Bf (F := F) c (Memref.whole main_v12_2))
  (o3 : Bf (F := F) c (Memref.whole main_v12_3))
  (o4 : Bf (F := F) c (Memref.whole main_v12_4))
  (o5 : Bf (F := F) c (Memref.whole main_v12_5))
  (o6 : Bf (F := F) c (Memref.whole main_v12_6))

theorem result0 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.1 =
    View.write (Elt F) (Memref.whole main_v12_0).view o0 (ReadAs.same.apply (View.read (Elt F) (Memref.whole cc0_scratch12).view
      ((Memref.whole cc0_scratch12).view.writes (Elt F) s12 (kernelRun.sl.S12_48 c f0 f1 f2 f3 f4 f5 f6 f7 f8 s0 s1 s2 s3 s4 s5 s17 s18 s19)))) Finset.univ := by sl_kernel_rfl

theorem result1 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.1 =
    View.write (Elt F) (Memref.whole main_v12_1).view o1 (ReadAs.same.apply (View.read (Elt F) (Memref.whole cc0_scratch13).view
      ((Memref.whole cc0_scratch13).view.writes (Elt F) s13 (kernelRun.sl.S13_48 c f0 f1 f6 f7 f8 s0 s5 s17 s18 s19)))) Finset.univ := by sl_kernel_rfl

theorem result2 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.1 =
    View.write (Elt F) (Memref.whole main_v12_2).view o2 (ReadAs.same.apply (View.read (Elt F) (Memref.whole cc0_scratch15).view
      ((Memref.whole cc0_scratch15).view.writes (Elt F) s15 (kernelRun.sl.S15_6 c f0 f1 f6 f7 f8 s0 s5 s17 s18 s19)))) Finset.univ := by sl_kernel_rfl

theorem result3 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.1 =
    View.write (Elt F) (Memref.whole main_v12_3).view o3 (ReadAs.same.apply (View.read (Elt F) (Memref.whole cc0_scratch14).view
      ((Memref.whole cc0_scratch14).view.writes (Elt F) s14 (kernelRun.sl.S14_192 c f0 f1 f2 f3 f6 f7 f8 s0 s1 s2 s5 s17 s18 s19)))) Finset.univ := by sl_kernel_rfl

theorem result4 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.1 =
    View.write (Elt F) (Memref.whole main_v12_4).view o4 (ReadAs.same.apply (View.read (Elt F) (Memref.whole cc0_scratch16).view
      ((Memref.whole cc0_scratch16).view.writes (Elt F) s16 (kernelRun.sl.S16_6 c f0 f1 f2 f3 f6 f7 f8 s0 s1 s2 s5 s17 s18 s19)))) Finset.univ := by sl_kernel_rfl

theorem result5 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.2.1 =
    View.write (Elt F) (Memref.whole main_v12_5).view o5 (ReadAs.same.apply (View.read (Elt F) (Memref.whole cc0_scratch22).view
      ((Memref.whole cc0_scratch22).view.writes (Elt F) s22 (kernelRun.sl.S22_96 c f6 s17)))) Finset.univ := by sl_kernel_rfl

theorem result6 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.2.2 =
    View.write (Elt F) (Memref.whole main_v12_6).view o6 (ReadAs.same.apply (View.read (Elt F) (Memref.whole cc0_scratch23).view
      ((Memref.whole cc0_scratch23).view.writes (Elt F) s23 (kernelRun.sl.S23_6 c f6 s17)))) Finset.univ := by sl_kernel_rfl

end

end Cert.KernelIdeal.Hand
-- ==== Proof.KernelIdealResults.lean ====
module

public import proofs.«01_k».proof.Proof.KernelIdealLists
public import proofs.«01_k».proof.Proof.KernelIdealRaw
public import proofs.«01_k».proof.Proof.KernelIdealStage

/-!
# The results of a run of the body

Each result is the array its staging buffer holds when it is copied out. It is a function of the inputs alone: row
`s` of sequence `b` comes from row `51 b + s` of the residual and of the attention output.
-/

@[expose] public section

set_option maxRecDepth 16384

noncomputable section

namespace Cert.KernelIdeal.Hand

open Cert.KernelIdeal Cert.KernelIdeal.Gen Cert.Ffn
open Idealize.ShloMosaic Idealize.ShloMosaic.TcCoe

/-- A whole buffer written everywhere holds what was written. -/
theorem whole_write {Val : EltTy → Type} (b : Ref sig .tc) (f : (Memref.whole b).view.ty.Contents Val) (w : b.ty.shape.Idx → Val b.ty.elt) :
    View.write Val (Memref.whole b).view f w Finset.univ = w :=
  View.read_write_univ (v := (Memref.whole b).view) f w

/-- A store of one plane leaves the others as they were. -/
theorem hP_cons {n : Fin 2} {j : Fin 4} {p : Fin 8} (h : oplane n j ≠ p) (v : FVec Ideal S320x128 .f32) (a : FVec Ideal S320x512 .f32) (s : FVec Ideal S320x128 .f32) (u : FVec Ideal S1x512 .f32)
    (L : List (View.Piece (Elt Ideal) cc0_scratch5.ty.shape cc0_scratch5.ty.elt)) : hP (outP n j v a s u :: L) p = hP L p := by
  have e (L : List (View.Piece (Elt Ideal) cc0_scratch5.ty.shape cc0_scratch5.ty.elt)) (r : Fin 320) (l : Fin 128) :
      hP L p (ix2 r l) = View.read (Elt Ideal) (Memref.whole cc0_scratch5).view ((Memref.whole cc0_scratch5).view.writes (Elt Ideal) (Memref.whole cc0_scratch5).view.junk L) (ix3 p ⟨r.val, by omega⟩ l) :=
    (cast320 _ r l).trans (readAt_ix3 _ _ (in5f p) 0 r l p ⟨r.val, by omega⟩ l (by simp) (by simp) (by simp))
  have h' : p.val < (oplane n j).val ∨ (oplane n j).val + 1 ≤ p.val := by
    have : (oplane n j).val ≠ p.val := fun e => h (Fin.ext e)
    omega
  funext y
  obtain ⟨r, l, rfl⟩ : ∃ r l, y = ix2 r l := ⟨_, _, eq_ix2 y⟩
  exact (e _ r l).trans ((View.read_writes_cons_miss_of_axis _ _ _ L (ix3 p ⟨r.val, by omega⟩ l) 0 (oplane n j).val 1 rfl rfl rfl h').trans (e L r l).symm)

section
variable (H : List (View.Piece (Elt Ideal) cc0_scratch5.ty.shape cc0_scratch5.ty.elt)) (acc : Fin 2 → FVec Ideal S320x512 .f32) (s : FVec Ideal S320x128 .f32) (u : Fin 2 → FVec Ideal S1x512 .f32)

/-- A plane not yet stored reads as before. -/
theorem hP_outR (k : ℕ) (p : Fin 8) (hk : k ≤ p.val) : hP (outR H acc s u k) p = hP H p := by
  induction k with
  | zero => rfl
  | succ k ih => exact (hP_cons (fun e => by have := congrArg Fin.val e; simp only [oplane] at this; omega) _ _ _ _ _).trans (ih (by omega))

theorem outR_succ (k : ℕ) (hk : k < 8) : outR H acc s u (k + 1) =
    outP ⟨k / 4 % 2, Nat.mod_lt _ (by decide)⟩ ⟨k % 4, Nat.mod_lt _ (by decide)⟩ (hP H (oplane ⟨k / 4 % 2, Nat.mod_lt _ (by decide)⟩ ⟨k % 4, Nat.mod_lt _ (by decide)⟩))
      (acc ⟨k / 4 % 2, Nat.mod_lt _ (by decide)⟩) s (u ⟨k / 4 % 2, Nat.mod_lt _ (by decide)⟩) :: outR H acc s u k :=
  congrArg (fun v => outP ⟨k / 4 % 2, Nat.mod_lt _ (by decide)⟩ ⟨k % 4, Nat.mod_lt _ (by decide)⟩ v (acc ⟨k / 4 % 2, Nat.mod_lt _ (by decide)⟩) s (u ⟨k / 4 % 2, Nat.mod_lt _ (by decide)⟩) :: outR H acc s u k)
    (hP_outR H acc s u k _ (by simp only [oplane]; omega))

/-- The new residual's stores read the planes as they were. -/
theorem outR_eq : outR H acc s u 8 = outL (hP H) acc s u ++ H := by
  rw [outR_succ _ _ _ _ 7 (by decide), outR_succ _ _ _ _ 6 (by decide), outR_succ _ _ _ _ 5 (by decide), outR_succ _ _ _ _ 4 (by decide),
    outR_succ _ _ _ _ 3 (by decide), outR_succ _ _ _ _ 2 (by decide), outR_succ _ _ _ _ 1 (by decide), outR_succ _ _ _ _ 0 (by decide)]
  rfl

end

section
variable (c : Dev nD)
  (f0 : Bf (F := Ideal) c (Memref.whole main_v3))
  (f6 : Bf (F := Ideal) c (Memref.whole main_v10))
  (f7 : Bf (F := Ideal) c (Memref.whole main_v11))
  (f8 : Bf (F := Ideal) c (Memref.whole main_arg8))
  (s5 : Bf (F := Ideal) c (Memref.whole cc0_scratch5))
  (s17 : Bf (F := Ideal) c (Memref.whole cc0_scratch17))
  (s18 : Bf (F := Ideal) c (Memref.whole cc0_scratch18))
  (s19 : Bf (F := Ideal) c (Memref.whole cc0_scratch19))
  (xi : S8x328x128.Idx → EReal) (ov : S16x328x128.Idx → EReal) (wo : Fin 2048 → Fin 1024 → EReal) (so : Fin 1024 → EReal)
  (hxi : View.read (Elt Ideal) (Memref.whole main_v3).view f0 = xi)
  (ho : View.read (Elt Ideal) (Memref.whole main_v10).view f6 = ov)
  (hwo : ∀ k j, View.read (Elt Ideal) (Memref.whole main_v11).view f7 (ix2 k j) = wo k j)
  (hso : ∀ j, View.read (Elt Ideal) (Memref.whole main_arg8).view f8 (ix2 0 j) = so j)

include hxi in
theorem readX : View.read (Elt Ideal) (Memref.whole cc0_scratch5).view (inX c f0 s5) = xi := (View.read_write_univ _ _).trans hxi
include ho in
theorem readO : View.read (Elt Ideal) (Memref.whole cc0_scratch17).view (inO c f6 s17) = ov := (View.read_write_univ _ _).trans ho
include hwo in
theorem readWO (k : Fin 2048) (j : Fin 1024) : View.read (Elt Ideal) (Memref.whole cc0_scratch18).view (inWO c f7 s18) (ix2 k j) = wo k j :=
  (congrFun (View.read_write_univ _ _) _).trans (hwo k j)
include hso in
theorem readSO (j : Fin 1024) : View.read (Elt Ideal) (Memref.whole cc0_scratch19).view (inSO c f8 s19) (ix2 0 j) = so j :=
  (congrFun (View.read_write_univ _ _) _).trans (hso j)

/-! ## The output product -/

include ho in
theorem c2_codes (q : Fin 16) (r : Fin 320) (l : Fin 128) : c2P (kernelRun.sl.S20_160 c f6 s17) q (ix2 r l) = qc (row ov ⟨r.val, by omega⟩) (at128 (n := 16) q l) := by
  rw [c2_list]
  exact (cast320 _ r l).trans (readCov_ix3 (Val := Elt Ideal) (e := .fp8e4m3) _ _ (fun y0 y1 y2 => qc (row ov ⟨y1.val, by omega⟩) (at128 (n := 16) y0 y2))
    (c2L_holds _ ov (readO c f6 s17 ov ho)) (in20f q) 0 r l q r l (c2L_covers _ q r l) (by simp) (by simp) (by simp))

include ho in
theorem s2_scales (r : Fin 320) (l : Fin 128) : s2V (kernelRun.sl.S21_10 c f6 s17) (ix2 r l) = qs (row ov ⟨r.val, by omega⟩) := by
  rw [s2_list]
  exact readCov_ix2 (Val := Elt Ideal) (e := .f32) _ _ (fun y0 _ => qs (row ov y0))
    (s2L_holds _ ov (readO c f6 s17 ov ho)) inb_S328x128_S320x128_0_0 r l ⟨r.val, by omega⟩ l (s2L_covers _ _ _ r.isLt) (by simp) (by simp)

/-- The residual after the output product, zero past the computed rows. -/
def midRow (y : S8x328x128.Idx) : EReal :=
  if _h : (y 1).val < 320 then mid (row xi (y 1)) (row ov (y 1)) wo so (at128 (n := 8) (y 0) (y 2)) else 0

theorem row_midRow (y0 : Fin 8) (y1 : Fin 328) (y2 : Fin 128) : row (midRow xi ov wo so) y1 (at128 (n := 8) y0 y2) =
    if _h : y1.val < 320 then mid (row xi y1) (row ov y1) wo so (at128 (n := 8) y0 y2) else 0 := by
  rw [row_at128]
  rfl

include hxi ho hwo hso in
theorem mid_stores (p) (hp : p ∈ kernelRun.sl.S5_8 c f0 f6 f7 f8 s5 s17 s18 s19) (y : p.1.shape.Idx) :
    p.2 y = (fun y : S8x328x128.Idx => row (midRow xi ov wo so) (y 1) (at128 (n := 8) (y 0) (y 2))) (p.1.emb y) := by
  rw [mid_list] at hp
  refine (outL_holds _ _ _ _ xi (fun r => qc (row ov ⟨r.val, by omega⟩)) (fun r => qs (row ov ⟨r.val, by omega⟩)) wo so (xP_apply _ xi (readX c f0 s5 xi hxi))
    (pAcc_apply _ _ _ wo (c2_codes c f6 s17 ov ho) (readWO c f7 s18 wo hwo)) (s2_scales c f6 s17 ov ho) (soV_apply _ so (readSO c f8 s19 so hso)) p hp y).trans ?_
  generalize p.1.emb y = z
  exact (row_midRow xi ov wo so (z 0) (z 1) (z 2)).symm

theorem mid_covers (y0 : Fin 8) (y1 : Fin 328) (y2 : Fin 128) (h : y1.val < 320) : ∃ p ∈ kernelRun.sl.S5_8 c f0 f6 f7 f8 s5 s17 s18 s19, ix3 y0 y1 y2 ∈ p.1.set := by
  rw [mid_list]; exact outL_covers _ _ _ _ y0 y1 y2 h

variable
  (f1 : Bf (F := Ideal) c (Memref.whole main_arg1))
  (f2 : Bf (F := Ideal) c (Memref.whole main_v4))
  (f3 : Bf (F := Ideal) c (Memref.whole main_v5))
  (f4 : Bf (F := Ideal) c (Memref.whole main_v6))
  (f5 : Bf (F := Ideal) c (Memref.whole main_arg5))
  (s0 : Bf (F := Ideal) c (Memref.whole cc0_scratch0))
  (s1 : Bf (F := Ideal) c (Memref.whole cc0_scratch1))
  (s2 : Bf (F := Ideal) c (Memref.whole cc0_scratch2))
  (s3 : Bf (F := Ideal) c (Memref.whole cc0_scratch3))
  (s4 : Bf (F := Ideal) c (Memref.whole cc0_scratch4))
  (x : S8x328x128.Idx → EReal) (w : Fin 1024 → EReal) (gu : Fin 2 → Fin 1024 → Fin 4096 → EReal) (sg : Fin 2 → Fin 4096 → EReal)
  (dn : Fin 4096 → Fin 1024 → EReal) (sd : Fin 1024 → EReal)
  (hx : ∀ p ∈ kernelRun.sl.S5_8 c f0 f6 f7 f8 s5 s17 s18 s19, ∀ y : p.1.shape.Idx, p.2 y = (fun y : S8x328x128.Idx => row x (y 1) (at128 (n := 8) (y 0) (y 2))) (p.1.emb y))
  (hw : ∀ k, View.read (Elt Ideal) (Memref.whole main_arg1).view f1 (ix2 0 k) = w k)
  (hgu : ∀ i k j, View.read (Elt Ideal) (Memref.whole main_v4).view f2 (ix3 i k j) = gu i k j)
  (hsg : ∀ i j, View.read (Elt Ideal) (Memref.whole main_v5).view f3 (ix2 i j) = sg i j)
  (hdn : ∀ k j, View.read (Elt Ideal) (Memref.whole main_v6).view f4 (ix2 k j) = dn k j)
  (hsd : ∀ j, View.read (Elt Ideal) (Memref.whole main_arg5).view f5 (ix2 0 j) = sd j)

include hx in
/-- The residual after the output product, a block of a plane. -/
theorem readH (h : 320 ≤ 328) (p : Fin 8) (g : Fin 10) (i : Fin 32) (l : Fin 128) :
    nX (kernelRun.sl.S5_8 c f0 f6 f7 f8 s5 s17 s18 s19) p g (ix2 i l) = row x (rowAt h g i) (at128 (n := 8) p l) :=
  nX_apply _ x hx (mid_covers c f0 f6 f7 f8 s5 s17 s18 s19) h p g i l

include hx in
/-- The residual after the output product, a plane. -/
theorem readP (p : Fin 8) (r : Fin 320) (l : Fin 128) (h : r.val < 328) :
    hP (kernelRun.sl.S5_8 c f0 f6 f7 f8 s5 s17 s18 s19) p (ix2 r l) = row x ⟨r.val, h⟩ (at128 (n := 8) p l) :=
  hP_apply _ x hx (mid_covers c f0 f6 f7 f8 s5 s17 s18 s19) p r l h

/-! ## The feed-forward half -/

/-- Row `r` of the 320 computed. -/
abbrev xr (r : Fin 320) : Fin 1024 → EReal := row x ⟨r.val, by omega⟩

include hw in
theorem readW (k : Fin 1024) : View.read (Elt Ideal) (Memref.whole cc0_scratch0).view (inW c f1 s0) (ix2 0 k) = w k := (congrFun (View.read_write_univ _ _) _).trans (hw k)
include hgu in
theorem readGU (i : Fin 2) (k : Fin 1024) (j : Fin 4096) : View.read (Elt Ideal) (Memref.whole cc0_scratch1).view (inGU c f2 s1) (ix3 i k j) = gu i k j :=
  (congrFun (View.read_write_univ _ _) _).trans (hgu i k j)
include hsg in
theorem readSG (i : Fin 2) (j : Fin 4096) : View.read (Elt Ideal) (Memref.whole cc0_scratch2).view (inSG c f3 s2) (ix2 i j) = sg i j :=
  (congrFun (View.read_write_univ _ _) _).trans (hsg i j)
include hdn in
theorem readDN (k : Fin 4096) (j : Fin 1024) : View.read (Elt Ideal) (Memref.whole cc0_scratch3).view (inDN c f4 s3) (ix2 k j) = dn k j :=
  (congrFun (View.read_write_univ _ _) _).trans (hdn k j)
include hsd in
theorem readSD (j : Fin 1024) : View.read (Elt Ideal) (Memref.whole cc0_scratch4).view (inSD c f5 s4) (ix2 0 j) = sd j :=
  (congrFun (View.read_write_univ _ _) _).trans (hsd j)

include hx hw in
theorem c3_codes (p : Fin 8) (r : Fin 320) (l : Fin 128) : c3P (kernelRun.sl.S6_80 c f0 f1 f6 f7 f8 s0 s5 s17 s18 s19) p (ix2 r l) = c3 (xr x r) w (at128 (n := 8) p l) := by
  rw [c3_list]
  exact (cast320 _ r l).trans (readCov_ix3 (Val := Elt Ideal) (e := .fp8e4m3) _ _ (fun y0 y1 y2 => c3 (xr x y1) w (at128 (n := 8) y0 y2))
    (c3L_holds _ _ x w (readH c f0 f6 f7 f8 s5 s17 s18 s19 x hx) (readW c f1 s0 w hw)) (in6f p) 0 r l p r l (c3L_covers _ _ p r l) (by simp) (by simp) (by simp))

include hx hw in
theorem s3_scales (r : Fin 320) (l : Fin 128) : s3V (kernelRun.sl.S7_10 c f0 f1 f6 f7 f8 s0 s5 s17 s18 s19) (ix2 r l) = Ffn.s3 (xr x r) w := by
  rw [s3_list]
  exact readCov_ix2 (Val := Elt Ideal) (e := .f32) _ _ (fun y0 _ => Ffn.s3 (row x y0) w)
    (s3L_holds _ _ x w (readH c f0 f6 f7 f8 s5 s17 s18 s19 x hx) (readW c f1 s0 w hw)) inb_S328x128_S320x128_0_0 r l ⟨r.val, by omega⟩ l (s3L_covers _ _ _ _ r.isLt) (by simp) (by simp)

/-- The hidden values of the rows. -/
abbrev hr (r : Fin 320) : Fin 4096 → EReal := hid (xr x r) w gu sg

include hx hw hgu hsg in
theorem hid_rows (p) (hp : p ∈ kernelRun.sl.S8_32 c f0 f1 f2 f3 f6 f7 f8 s0 s1 s2 s5 s17 s18 s19) (y : p.1.shape.Idx) :
    p.2 y = (fun y : S32x320x128.Idx => hr x w gu sg (y 1) (at128 (n := 32) (y 0) (y 2))) (p.1.emb y) := by
  rw [hid_list] at hp
  exact hidL_holds _ _ _ _ (fun r => c3 (xr x r) w) (fun r => Ffn.s3 (xr x r) w) gu sg (c3_codes c f0 f6 f7 f8 s5 s17 s18 s19 f1 s0 x w hx hw) (s3_scales c f0 f6 f7 f8 s5 s17 s18 s19 f1 s0 x w hx hw)
    (readGU c f2 s1 gu hgu) (readSG c f3 s2 sg hsg) p hp y

theorem hid_covers (y0 : Fin 32) (y1 : Fin 320) (y2 : Fin 128) : ∃ p ∈ kernelRun.sl.S8_32 c f0 f1 f2 f3 f6 f7 f8 s0 s1 s2 s5 s17 s18 s19, ix3 y0 y1 y2 ∈ p.1.set := by
  rw [hid_list]; exact hidL_covers _ _ _ _ y0 y1 y2

include hx hw hgu hsg in
theorem am_rows_le (r : Fin 320) (l : Fin 128) (z : EReal) :
    amAll (kernelRun.sl.S9_17 c f0 f1 f2 f3 f6 f7 f8 s0 s1 s2 s5 s17 s18 s19) (ix2 r l) ≤ z ↔ 0 ≤ z ∧ ∀ q : Fin 32, mag (hr x w gu sg r (at128 (n := 32) q l)) ≤ z := by
  rw [am_list]
  refine (amL_le _ _ _ _ (fun r => c3 (xr x r) w) (fun r => Ffn.s3 (xr x r) w) gu sg (c3_codes c f0 f6 f7 f8 s5 s17 s18 s19 f1 s0 x w hx hw) (s3_scales c f0 f6 f7 f8 s5 s17 s18 s19 f1 s0 x w hx hw)
    (readGU c f2 s1 gu hgu) (readSG c f3 s2 sg hsg) 16 (Nat.le_refl 16) r l z).trans ?_
  exact and_congr_right fun _ => ⟨fun h q => h q q.isLt, fun h q _ => h q⟩

include hx hw hgu hsg in
theorem c4_stores (p) (hp : p ∈ kernelRun.sl.S10_320 c f0 f1 f2 f3 f6 f7 f8 s0 s1 s2 s5 s17 s18 s19) (y : p.1.shape.Idx) :
    p.2 y = (fun y : S32x320x128.Idx => c4 (xr x (y 1)) w gu sg (at128 (n := 32) (y 0) (y 2))) (p.1.emb y) := by
  rw [c4_list] at hp
  exact c4L_holds _ _ (hr x w gu sg) (hid_rows c f0 f6 f7 f8 s5 s17 s18 s19 f1 f2 f3 s0 s1 s2 x w gu sg hx hw hgu hsg) (hid_covers c f0 f6 f7 f8 s5 s17 s18 s19 f1 f2 f3 s0 s1 s2)
    (am_rows_le c f0 f6 f7 f8 s5 s17 s18 s19 f1 f2 f3 s0 s1 s2 x w gu sg hx hw hgu hsg) p hp y

include hx hw hgu hsg in
theorem c4_codes (q : Fin 32) (r : Fin 320) (l : Fin 128) :
    c4P (kernelRun.sl.S10_320 c f0 f1 f2 f3 f6 f7 f8 s0 s1 s2 s5 s17 s18 s19) q (ix2 r l) = c4 (xr x r) w gu sg (at128 (n := 32) q l) :=
  (cast320 _ r l).trans (readCov_ix3 (Val := Elt Ideal) (e := .fp8e4m3) _ _ (fun y0 y1 y2 => c4 (xr x y1) w gu sg (at128 (n := 32) y0 y2))
    (c4_stores c f0 f6 f7 f8 s5 s17 s18 s19 f1 f2 f3 s0 s1 s2 x w gu sg hx hw hgu hsg) (in8f q) 0 r l q r l (by rw [c4_list]; exact c4L_covers _ _ q r l) (by simp) (by simp) (by simp))

/-- The hidden scale of a row, zero past the computed rows. -/
def s4Row (r : Fin 328) : EReal := if h : r.val < 320 then Ffn.s4 (xr x ⟨r.val, h⟩) w gu sg else 0

include hx hw hgu hsg in
theorem s4_stores (p) (hp : p ∈ kernelRun.sl.S11_10 c f0 f1 f2 f3 f6 f7 f8 s0 s1 s2 s5 s17 s18 s19) (y : p.1.shape.Idx) :
    p.2 y = (fun y : S328x128.Idx => s4Row x w gu sg (y 0)) (p.1.emb y) := by
  rw [s4_list] at hp
  exact s4L_holds _ (hr x w gu sg) (am_rows_le c f0 f6 f7 f8 s5 s17 s18 s19 f1 f2 f3 s0 s1 s2 x w gu sg hx hw hgu hsg) p hp y

theorem s4_covers (y0 : Fin 328) (y1 : Fin 128) (h : y0.val < 320) : ∃ p ∈ kernelRun.sl.S11_10 c f0 f1 f2 f3 f6 f7 f8 s0 s1 s2 s5 s17 s18 s19, ix2 y0 y1 ∈ p.1.set := by
  rw [s4_list]; exact s4L_covers _ y0 y1 h

include hx hw hgu hsg in
theorem s4_scales (r : Fin 320) (l : Fin 128) : s4V (kernelRun.sl.S11_10 c f0 f1 f2 f3 f6 f7 f8 s0 s1 s2 s5 s17 s18 s19) (ix2 r l) = Ffn.s4 (xr x r) w gu sg :=
  (readCov_ix2 (Val := Elt Ideal) (e := .f32) _ _ (fun y0 _ => s4Row x w gu sg y0) (s4_stores c f0 f6 f7 f8 s5 s17 s18 s19 f1 f2 f3 s0 s1 s2 x w gu sg hx hw hgu hsg)
    inb_S328x128_S320x128_0_0 r l ⟨r.val, by omega⟩ l (s4_covers c f0 f6 f7 f8 s5 s17 s18 s19 f1 f2 f3 s0 s1 s2 _ _ r.isLt) (by simp) (by simp)).trans (dif_pos r.isLt)

/-- The new residual's row, zero past the computed rows. -/
def outRow (p : Fin 8) (r : Fin 328) (l : Fin 128) : EReal :=
  if h : r.val < 320 then row x r (at128 (n := 8) p l) + proj (c4 (xr x ⟨r.val, h⟩) w gu sg) (Ffn.s4 (xr x ⟨r.val, h⟩) w gu sg) dn sd (at128 (n := 8) p l) else 0

/-- The new residual's stores. -/
abbrev outNew : List (View.Piece (Elt Ideal) cc0_scratch5.ty.shape cc0_scratch5.ty.elt) :=
  outL (hP (kernelRun.sl.S5_8 c f0 f6 f7 f8 s5 s17 s18 s19)) (dAcc (kernelRun.sl.S10_320 c f0 f1 f2 f3 f6 f7 f8 s0 s1 s2 s5 s17 s18 s19) (inDN c f4 s3)) (s4V (kernelRun.sl.S11_10 c f0 f1 f2 f3 f6 f7 f8 s0 s1 s2 s5 s17 s18 s19)) (sdV (inSD c f5 s4))

include hx hw hgu hsg hdn hsd in
theorem out_stores (p) (hp : p ∈ outNew c f0 f6 f7 f8 s5 s17 s18 s19 f1 f2 f3 f4 f5 s0 s1 s2 s3 s4) (y : p.1.shape.Idx) :
    p.2 y = (fun y : S8x328x128.Idx => outRow x w gu sg dn sd (y 0) (y 1) (y 2)) (p.1.emb y) :=
  outL_holds _ _ _ _ x (fun r => c4 (xr x r) w gu sg) (fun r => Ffn.s4 (xr x r) w gu sg) dn sd (readP c f0 f6 f7 f8 s5 s17 s18 s19 x hx)
    (dAcc_apply _ _ _ dn (c4_codes c f0 f6 f7 f8 s5 s17 s18 s19 f1 f2 f3 s0 s1 s2 x w gu sg hx hw hgu hsg) (readDN c f4 s3 dn hdn)) (s4_scales c f0 f6 f7 f8 s5 s17 s18 s19 f1 f2 f3 s0 s1 s2 x w gu sg hx hw hgu hsg)
    (sdV_apply _ sd (readSD c f5 s4 sd hsd)) p hp y

variable
  (s6 : Bf (F := Ideal) c (Memref.whole cc0_scratch6))
  (s7 : Bf (F := Ideal) c (Memref.whole cc0_scratch7))
  (s8 : Bf (F := Ideal) c (Memref.whole cc0_scratch8))
  (s9 : Bf (F := Ideal) c (Memref.whole cc0_scratch9))
  (s10 : Bf (F := Ideal) c (Memref.whole cc0_scratch10))
  (s11 : Bf (F := Ideal) c (Memref.whole cc0_scratch11))
  (s12 : Bf (F := Ideal) c (Memref.whole cc0_scratch12))
  (s13 : Bf (F := Ideal) c (Memref.whole cc0_scratch13))
  (s14 : Bf (F := Ideal) c (Memref.whole cc0_scratch14))
  (s15 : Bf (F := Ideal) c (Memref.whole cc0_scratch15))
  (s16 : Bf (F := Ideal) c (Memref.whole cc0_scratch16))
  (s20 : Bf (F := Ideal) c (Memref.whole cc0_scratch20))
  (s21 : Bf (F := Ideal) c (Memref.whole cc0_scratch21))
  (s22 : Bf (F := Ideal) c (Memref.whole cc0_scratch22))
  (s23 : Bf (F := Ideal) c (Memref.whole cc0_scratch23))
  (o0 : Bf (F := Ideal) c (Memref.whole main_v12_0))
  (o1 : Bf (F := Ideal) c (Memref.whole main_v12_1))
  (o2 : Bf (F := Ideal) c (Memref.whole main_v12_2))
  (o3 : Bf (F := Ideal) c (Memref.whole main_v12_3))
  (o4 : Bf (F := Ideal) c (Memref.whole main_v12_4))
  (o5 : Bf (F := Ideal) c (Memref.whole main_v12_5))
  (o6 : Bf (F := Ideal) c (Memref.whole main_v12_6))

include hx hw hgu hsg hdn hsd in
/-- The residual after the layer. -/
theorem run_result0 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.1 = fun y : S6x51x1024.Idx => res (row x (rowB (by decide) (y 0) (y 1))) w gu sg dn sd (y 2) := by
  rw [result0, hst_list, out_list, outR_eq]
  refine (whole_write main_v12_0 _ _).trans (funext fun y => ?_)
  refine View.read_writes_apply_of_pieces (Val := Elt Ideal) (e := .f32) _ _ (fun y : S6x51x1024.Idx => res (row x (rowB (by decide) (y 0) (y 1))) w gu sg dn sd (y 2)) _ ?_ y ?_
  · refine hstL_holds _ _ (outRow x w gu sg dn sd) (fun b s k => res (row x (rowB (by decide) b s)) w gu sg dn sd k)
      (out_stores c f0 f6 f7 f8 s5 s17 s18 s19 f1 f2 f3 f4 f5 s0 s1 s2 s3 s4 x w gu sg dn sd hx hw hgu hsg hdn hsd)
      (outL_covers _ _ _ _) fun b s p l => ?_
    rw [outRow, dif_pos (show (rowB (m := 328) (by decide) b s).val < 320 by simp only [rowB]; omega)]
    rfl
  · rw [eq_ix3 y]; exact hstL_covers _ _ _ _

include hx hw in
/-- The norm's codes. -/
theorem run_result1 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.1 = fun y : S6x51x1024.Idx => c3 (row x (rowB (by decide) (y 0) (y 1))) w (y 2) := by
  rw [result1, c3st_list]
  refine (whole_write main_v12_1 _ _).trans (funext fun y => ?_)
  refine View.read_writes_apply_of_pieces (Val := Elt Ideal) (e := .fp8e4m3) _ _ (fun y : S6x51x1024.Idx => c3 (row x (rowB (by decide) (y 0) (y 1))) w (y 2)) _ ?_ y ?_
  · exact c3stL_holds _ (fun b s k => c3 (row x (rowB (by decide) b s)) w k) fun b s p l => c3_codes c f0 f6 f7 f8 s5 s17 s18 s19 f1 s0 x w hx hw p (rowB (by decide) b s) l
  · rw [eq_ix3 y]; exact c3stL_covers _ _ _ _

include hx hw in
/-- The norm's scales. -/
theorem run_result2 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.1 = fun y : S6x51.Idx => Ffn.s3 (row x (rowB (by decide) (y 0) (y 1))) w := by
  rw [result2, s3st_list]
  refine (whole_write main_v12_2 _ _).trans (funext fun y => ?_)
  refine View.read_writes_apply_of_pieces (Val := Elt Ideal) (e := .f32) _ _ (fun y : S6x51.Idx => Ffn.s3 (row x (rowB (by decide) (y 0) (y 1))) w) _ ?_ y ?_
  · refine s3stL_holds _ (fun r => Ffn.s3 (row x r) w) (fun b s => Ffn.s3 (row x (rowB (by decide) b s)) w) ?_ ?_ fun _ _ => rfl
    · rw [s3_list]; exact s3L_holds _ _ x w (readH c f0 f6 f7 f8 s5 s17 s18 s19 x hx) (readW c f1 s0 w hw)
    · rw [s3_list]; exact fun y0 y1 h => s3L_covers _ _ y0 y1 h
  · rw [eq_ix2 y]; exact s3stL_covers _ _ _

include hx hw hgu hsg in
/-- The hidden values' codes. -/
theorem run_result3 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.1 = fun y : S6x51x4096.Idx => c4 (row x (rowB (by decide) (y 0) (y 1))) w gu sg (y 2) := by
  rw [result3, c4st_list]
  refine (whole_write main_v12_3 _ _).trans (funext fun y => ?_)
  refine View.read_writes_apply_of_pieces (Val := Elt Ideal) (e := .fp8e4m3) _ _ (fun y : S6x51x4096.Idx => c4 (row x (rowB (by decide) (y 0) (y 1))) w gu sg (y 2)) _ ?_ y ?_
  · exact c4stL_holds _ (fun b s k => c4 (row x (rowB (by decide) b s)) w gu sg k) fun b s p l => c4_codes c f0 f6 f7 f8 s5 s17 s18 s19 f1 f2 f3 s0 s1 s2 x w gu sg hx hw hgu hsg p (rowB (by decide) b s) l
  · rw [eq_ix3 y]; exact c4stL_covers _ _ _ _

include hx hw hgu hsg in
/-- The hidden rows' scales. -/
theorem run_result4 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.1 = fun y : S6x51.Idx => Ffn.s4 (row x (rowB (by decide) (y 0) (y 1))) w gu sg := by
  rw [result4, s4st_list]
  refine (whole_write main_v12_4 _ _).trans (funext fun y => ?_)
  refine View.read_writes_apply_of_pieces (Val := Elt Ideal) (e := .f32) _ _ (fun y : S6x51.Idx => Ffn.s4 (row x (rowB (by decide) (y 0) (y 1))) w gu sg) _ ?_ y ?_
  · refine s4stL_holds _ (s4Row x w gu sg) (fun b s => Ffn.s4 (row x (rowB (by decide) b s)) w gu sg) (s4_stores c f0 f6 f7 f8 s5 s17 s18 s19 f1 f2 f3 s0 s1 s2 x w gu sg hx hw hgu hsg) (s4_covers c f0 f6 f7 f8 s5 s17 s18 s19 f1 f2 f3 s0 s1 s2) fun b s => ?_
    rw [s4Row, dif_pos (show (rowB (m := 328) (by decide) b s).val < 320 by simp only [rowB]; omega)]
  · rw [eq_ix2 y]; exact s4stL_covers _ _ _

include ho in
/-- The attention output's codes. -/
theorem run_result5 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.2.1 = fun y : S6x51x2048.Idx => qc (row ov (rowB (by decide) (y 0) (y 1))) (y 2) := by
  rw [result5, c2st_list]
  refine (whole_write main_v12_5 _ _).trans (funext fun y => ?_)
  refine View.read_writes_apply_of_pieces (Val := Elt Ideal) (e := .fp8e4m3) _ _ (fun y : S6x51x2048.Idx => qc (row ov (rowB (by decide) (y 0) (y 1))) (y 2)) _ ?_ y ?_
  · exact c2stL_holds _ (fun b s k => qc (row ov (rowB (by decide) b s)) k) fun b s p l => c2_codes c f6 s17 ov ho p (rowB (by decide) b s) l
  · rw [eq_ix3 y]; exact c2stL_covers _ _ _ _

include ho in
/-- The attention output's scales. -/
theorem run_result6 : (kernelRun c f0 f1 f2 f3 f4 f5 f6 f7 f8 s0 s1 s2 s3 s4 s5 s6 s7 s8 s9 s10 s11 s12 s13 s14 s15 s16 s17 s18 s19 s20 s21 s22 s23 o0 o1 o2 o3 o4 o5 o6).1.2.2.2.2.2.2 = fun y : S6x51.Idx => qs (row ov (rowB (by decide) (y 0) (y 1))) := by
  rw [result6, s2st_list]
  refine (whole_write main_v12_6 _ _).trans (funext fun y => ?_)
  refine View.read_writes_apply_of_pieces (Val := Elt Ideal) (e := .f32) _ _ (fun y : S6x51.Idx => qs (row ov (rowB (by decide) (y 0) (y 1)))) _ ?_ y ?_
  · refine s2stL_holds _ (fun r => qs (row ov r)) (fun b s => qs (row ov (rowB (by decide) b s))) ?_ ?_ fun _ _ => rfl
    · rw [s2_list]; exact s2L_holds _ ov (readO c f6 s17 ov ho)
    · rw [s2_list]; exact fun y0 y1 h => s2L_covers _ y0 y1 h
  · rw [eq_ix2 y]; exact s2stL_covers _ _ _

end

end Cert.KernelIdeal.Hand
-- ==== Proof.KernelIdealValue.lean ====
module

public import proofs.«01_k».proof.Proof.KernelIdealEntry
public import proofs.«01_k».proof.Proof.KernelIdealResults

/-!
# The kernel's results

Every run of the whole program leaves the seven results in the seven arrays and the arguments as they were.
-/

@[expose] public section

noncomputable section

namespace Cert.KernelIdeal.Hand

open Cert.KernelIdeal Cert.KernelIdeal.Gen Cert.Ffn
open Idealize.ShloMosaic Idealize.ShloMosaic.TcCoe Idealize.SL.Sem

variable (m : (ℓ : Loc nD τ sig) → Buf (Elt Ideal) ℓ) (ρ : Dev nD → PrngReg)

/-- The arrays after the call. -/
def G (c : Dev nD) : (b : Ref sig .tc) → Buf (Elt Ideal) ((c : Thread nD τ).loc b) :=
  Function.update (Function.update (Function.update (Function.update (Function.update (Function.update (Function.update (V m c) main_v12_0 (outH (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)))) main_v12_1 (outC3 (midA (m ((c : Thread nD τ).loc main_arg0)) (m ((c : Thread nD τ).loc main_arg6)) (m ((c : Thread nD τ).loc main_arg7)) (m ((c : Thread nD τ).loc main_arg8))) (m ((c : Thread nD τ).loc main_arg1)))) main_v12_2 (outS3 (midA (m ((c : Thread nD τ).loc main_arg0)) (m ((c : Thread nD τ).loc main_arg6)) (m ((c : Thread nD τ).loc main_arg7)) (m ((c : Thread nD τ).loc main_arg8))) (m ((c : Thread nD τ).loc main_arg1)))) main_v12_3 (outC4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)))) main_v12_4 (outS4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)))) main_v12_5 (outC2 (m ((c : Thread nD τ).loc main_arg6)))) main_v12_6 (outS2 (m ((c : Thread nD τ).loc main_arg6)))

theorem G_0 (c : Dev nD) : G m c main_v12_0 = outH (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) := by
  unfold G
  rw [Function.update_of_ne (by decide)]
  rw [Function.update_of_ne (by decide)]
  rw [Function.update_of_ne (by decide)]
  rw [Function.update_of_ne (by decide)]
  rw [Function.update_of_ne (by decide)]
  rw [Function.update_of_ne (by decide)]
  rw [Function.update_self]

theorem G_1 (c : Dev nD) : G m c main_v12_1 = outC3 (midA (m ((c : Thread nD τ).loc main_arg0)) (m ((c : Thread nD τ).loc main_arg6)) (m ((c : Thread nD τ).loc main_arg7)) (m ((c : Thread nD τ).loc main_arg8))) (m ((c : Thread nD τ).loc main_arg1)) := by
  unfold G
  rw [Function.update_of_ne (by decide)]
  rw [Function.update_of_ne (by decide)]
  rw [Function.update_of_ne (by decide)]
  rw [Function.update_of_ne (by decide)]
  rw [Function.update_of_ne (by decide)]
  rw [Function.update_self]

theorem G_2 (c : Dev nD) : G m c main_v12_2 = outS3 (midA (m ((c : Thread nD τ).loc main_arg0)) (m ((c : Thread nD τ).loc main_arg6)) (m ((c : Thread nD τ).loc main_arg7)) (m ((c : Thread nD τ).loc main_arg8))) (m ((c : Thread nD τ).loc main_arg1)) := by
  unfold G
  rw [Function.update_of_ne (by decide)]
  rw [Function.update_of_ne (by decide)]
  rw [Function.update_of_ne (by decide)]
  rw [Function.update_of_ne (by decide)]
  rw [Function.update_self]

theorem G_3 (c : Dev nD) : G m c main_v12_3 = outC4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) := by
  unfold G
  rw [Function.update_of_ne (by decide)]
  rw [Function.update_of_ne (by decide)]
  rw [Function.update_of_ne (by decide)]
  rw [Function.update_self]

theorem G_4 (c : Dev nD) : G m c main_v12_4 = outS4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) := by
  unfold G
  rw [Function.update_of_ne (by decide)]
  rw [Function.update_of_ne (by decide)]
  rw [Function.update_self]

theorem G_5 (c : Dev nD) : G m c main_v12_5 = outC2 (m ((c : Thread nD τ).loc main_arg6)) := by
  unfold G
  rw [Function.update_of_ne (by decide)]
  rw [Function.update_self]

theorem G_6 (c : Dev nD) : G m c main_v12_6 = outS2 (m ((c : Thread nD τ).loc main_arg6)) := by
  unfold G
  rw [Function.update_self]

section
variable (c : Dev nD)
  (s0 : Bf (F := Ideal) c (Memref.whole cc0_scratch0))
  (s1 : Bf (F := Ideal) c (Memref.whole cc0_scratch1))
  (s2 : Bf (F := Ideal) c (Memref.whole cc0_scratch2))
  (s3 : Bf (F := Ideal) c (Memref.whole cc0_scratch3))
  (s4 : Bf (F := Ideal) c (Memref.whole cc0_scratch4))
  (s5 : Bf (F := Ideal) c (Memref.whole cc0_scratch5))
  (s6 : Bf (F := Ideal) c (Memref.whole cc0_scratch6))
  (s7 : Bf (F := Ideal) c (Memref.whole cc0_scratch7))
  (s8 : Bf (F := Ideal) c (Memref.whole cc0_scratch8))
  (s9 : Bf (F := Ideal) c (Memref.whole cc0_scratch9))
  (s10 : Bf (F := Ideal) c (Memref.whole cc0_scratch10))
  (s11 : Bf (F := Ideal) c (Memref.whole cc0_scratch11))
  (s12 : Bf (F := Ideal) c (Memref.whole cc0_scratch12))
  (s13 : Bf (F := Ideal) c (Memref.whole cc0_scratch13))
  (s14 : Bf (F := Ideal) c (Memref.whole cc0_scratch14))
  (s15 : Bf (F := Ideal) c (Memref.whole cc0_scratch15))
  (s16 : Bf (F := Ideal) c (Memref.whole cc0_scratch16))
  (s17 : Bf (F := Ideal) c (Memref.whole cc0_scratch17))
  (s18 : Bf (F := Ideal) c (Memref.whole cc0_scratch18))
  (s19 : Bf (F := Ideal) c (Memref.whole cc0_scratch19))
  (s20 : Bf (F := Ideal) c (Memref.whole cc0_scratch20))
  (s21 : Bf (F := Ideal) c (Memref.whole cc0_scratch21))
  (s22 : Bf (F := Ideal) c (Memref.whole cc0_scratch22))
  (s23 : Bf (F := Ideal) c (Memref.whole cc0_scratch23))

theorem read_w (k : Fin 1024) : View.read (Elt Ideal) (Memref.whole main_arg1).view (V m c main_arg1) (ix2 0 k) = lw (m ((c : Thread nD τ).loc main_arg1)) k := by
  rw [V_main_arg1]; rfl

theorem read_gu (i : Fin 2) (k : Fin 1024) (j : Fin 4096) : View.read (Elt Ideal) (Memref.whole main_v4).view (V m c main_v4) (ix3 i k j) = lgu (m ((c : Thread nD τ).loc main_arg2)) i k j := by
  rw [V_v4]; exact gu_apply _ i k j

theorem read_sg (i : Fin 2) (j : Fin 4096) : View.read (Elt Ideal) (Memref.whole main_v5).view (V m c main_v5) (ix2 i j) = lsg (m ((c : Thread nD τ).loc main_arg3)) i j := by
  rw [V_v5]; exact sg_apply _ i j

theorem read_dn (k : Fin 4096) (j : Fin 1024) : View.read (Elt Ideal) (Memref.whole main_v6).view (V m c main_v6) (ix2 k j) = ldn (m ((c : Thread nD τ).loc main_arg4)) k j := by
  rw [V_v6]; exact dn_apply _ k j

theorem read_sd (j : Fin 1024) : View.read (Elt Ideal) (Memref.whole main_arg5).view (V m c main_arg5) (ix2 0 j) = lsd (m ((c : Thread nD τ).loc main_arg5)) j := by
  rw [V_main_arg5]; rfl

theorem read_wo (k : Fin 2048) (j : Fin 1024) : View.read (Elt Ideal) (Memref.whole main_v11).view (V m c main_v11) (ix2 k j) = lwo (m ((c : Thread nD τ).loc main_arg7)) k j := by
  rw [V_v11]; exact wo_apply _ k j

theorem read_so (j : Fin 1024) : View.read (Elt Ideal) (Memref.whole main_arg8).view (V m c main_arg8) (ix2 0 j) = lso (m ((c : Thread nD τ).loc main_arg8)) j := by
  rw [V_main_arg8]; rfl

/-- The residual after the output product, in planes. -/
abbrev vMid : S8x328x128.Idx → EReal :=
  midRow (V m c main_v3) (V m c main_v10) (lwo (m ((c : Thread nD τ).loc main_arg7))) (lso (m ((c : Thread nD τ).loc main_arg8)))

theorem read_mid (p) (hp : p ∈ kernelRun.sl.S5_8 c (V m c main_v3) (V m c main_v10) (V m c main_v11) (V m c main_arg8) s5 s17 s18 s19) (y : p.1.shape.Idx) :
    p.2 y = (fun y : S8x328x128.Idx => row (vMid m c) (y 1) (at128 (n := 8) (y 0) (y 2))) (p.1.emb y) :=
  mid_stores c (V m c main_v3) (V m c main_v10) (V m c main_v11) (V m c main_arg8) s5 s17 s18 s19 (V m c main_v3) (V m c main_v10) _ _ rfl rfl (read_wo m c) (read_so m c) p hp y

/-- Its rows are the layer's. -/
theorem row_mid (b : Fin 6) (s : Fin 51) : row (n := 8) (m := 328) (vMid m c) (rowB (by decide) b s) = lrow (midA (m ((c : Thread nD τ).loc main_arg0)) (m ((c : Thread nD τ).loc main_arg6)) (m ((c : Thread nD τ).loc main_arg7)) (m ((c : Thread nD τ).loc main_arg8))) b s := by
  funext k
  obtain ⟨p, l, rfl⟩ := at128_surj (n := 8) k
  rw [row_at128]
  refine (dif_pos (show (rowB (m := 328) (by decide) b s).val < 320 by simp only [rowB]; omega)).trans ?_
  show mid (row (n := 8) (m := 328) (V m c main_v3) (rowB (by decide) b s)) (row (n := 16) (m := 328) (V m c main_v10) (rowB (by decide) b s)) _ _ _ = _
  rw [row_v3, row_v10]
  rfl

theorem call0 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.1 = outH (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) :=
  (run_result0 c (V m c main_v3) (V m c main_v10) (V m c main_v11) (V m c main_arg8) s5 s17 s18 s19 (V m c main_arg1) (V m c main_v4) (V m c main_v5) (V m c main_v6) (V m c main_arg5) s0 s1 s2 s3 s4 (vMid m c) (lw (m ((c : Thread nD τ).loc main_arg1))) (lgu (m ((c : Thread nD τ).loc main_arg2))) (lsg (m ((c : Thread nD τ).loc main_arg3))) (ldn (m ((c : Thread nD τ).loc main_arg4))) (lsd (m ((c : Thread nD τ).loc main_arg5))) (read_mid m c s5 s17 s18 s19) (read_w m c) (read_gu m c) (read_sg m c) (read_dn m c) (read_sd m c) s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outH (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5))) (funext fun y => congrArg (fun r => res r (lw (m ((c : Thread nD τ).loc main_arg1))) (lgu (m ((c : Thread nD τ).loc main_arg2))) (lsg (m ((c : Thread nD τ).loc main_arg3))) (ldn (m ((c : Thread nD τ).loc main_arg4))) (lsd (m ((c : Thread nD τ).loc main_arg5))) (y 2)) (row_mid m c (y 0) (y 1)))

theorem call1 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.1 = outC3 (midA (m ((c : Thread nD τ).loc main_arg0)) (m ((c : Thread nD τ).loc main_arg6)) (m ((c : Thread nD τ).loc main_arg7)) (m ((c : Thread nD τ).loc main_arg8))) (m ((c : Thread nD τ).loc main_arg1)) :=
  (run_result1 c (V m c main_v3) (V m c main_v10) (V m c main_v11) (V m c main_arg8) s5 s17 s18 s19 (V m c main_arg1) (V m c main_v4) (V m c main_v5) (V m c main_v6) (V m c main_arg5) s0 s1 s2 s3 s4 (vMid m c) (lw (m ((c : Thread nD τ).loc main_arg1))) (read_mid m c s5 s17 s18 s19) (read_w m c) s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outC3 (midA (m ((c : Thread nD τ).loc main_arg0)) (m ((c : Thread nD τ).loc main_arg6)) (m ((c : Thread nD τ).loc main_arg7)) (m ((c : Thread nD τ).loc main_arg8))) (m ((c : Thread nD τ).loc main_arg1))) (funext fun y => congrArg (fun r => c3 r (lw (m ((c : Thread nD τ).loc main_arg1))) (y 2)) (row_mid m c (y 0) (y 1)))

theorem call2 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.2.1 = outS3 (midA (m ((c : Thread nD τ).loc main_arg0)) (m ((c : Thread nD τ).loc main_arg6)) (m ((c : Thread nD τ).loc main_arg7)) (m ((c : Thread nD τ).loc main_arg8))) (m ((c : Thread nD τ).loc main_arg1)) :=
  (run_result2 c (V m c main_v3) (V m c main_v10) (V m c main_v11) (V m c main_arg8) s5 s17 s18 s19 (V m c main_arg1) (V m c main_v4) (V m c main_v5) (V m c main_v6) (V m c main_arg5) s0 s1 s2 s3 s4 (vMid m c) (lw (m ((c : Thread nD τ).loc main_arg1))) (read_mid m c s5 s17 s18 s19) (read_w m c) s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outS3 (midA (m ((c : Thread nD τ).loc main_arg0)) (m ((c : Thread nD τ).loc main_arg6)) (m ((c : Thread nD τ).loc main_arg7)) (m ((c : Thread nD τ).loc main_arg8))) (m ((c : Thread nD τ).loc main_arg1))) (funext fun y => congrArg (fun r => Ffn.s3 r (lw (m ((c : Thread nD τ).loc main_arg1)))) (row_mid m c (y 0) (y 1)))

theorem call3 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.2.2.1 = outC4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) :=
  (run_result3 c (V m c main_v3) (V m c main_v10) (V m c main_v11) (V m c main_arg8) s5 s17 s18 s19 (V m c main_arg1) (V m c main_v4) (V m c main_v5) (V m c main_v6) (V m c main_arg5) s0 s1 s2 s3 s4 (vMid m c) (lw (m ((c : Thread nD τ).loc main_arg1))) (lgu (m ((c : Thread nD τ).loc main_arg2))) (lsg (m ((c : Thread nD τ).loc main_arg3))) (read_mid m c s5 s17 s18 s19) (read_w m c) (read_gu m c) (read_sg m c) s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outC4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3))) (funext fun y => congrArg (fun r => c4 r (lw (m ((c : Thread nD τ).loc main_arg1))) (lgu (m ((c : Thread nD τ).loc main_arg2))) (lsg (m ((c : Thread nD τ).loc main_arg3))) (y 2)) (row_mid m c (y 0) (y 1)))

theorem call4 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.2.2.2.1 = outS4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) :=
  (run_result4 c (V m c main_v3) (V m c main_v10) (V m c main_v11) (V m c main_arg8) s5 s17 s18 s19 (V m c main_arg1) (V m c main_v4) (V m c main_v5) (V m c main_v6) (V m c main_arg5) s0 s1 s2 s3 s4 (vMid m c) (lw (m ((c : Thread nD τ).loc main_arg1))) (lgu (m ((c : Thread nD τ).loc main_arg2))) (lsg (m ((c : Thread nD τ).loc main_arg3))) (read_mid m c s5 s17 s18 s19) (read_w m c) (read_gu m c) (read_sg m c) s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outS4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3))) (funext fun y => congrArg (fun r => Ffn.s4 r (lw (m ((c : Thread nD τ).loc main_arg1))) (lgu (m ((c : Thread nD τ).loc main_arg2))) (lsg (m ((c : Thread nD τ).loc main_arg3)))) (row_mid m c (y 0) (y 1)))

theorem call5 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.2.2.2.2.1 = outC2 (m ((c : Thread nD τ).loc main_arg6)) :=
  (run_result5 c (V m c main_v3) (V m c main_v10) (V m c main_v11) (V m c main_arg8) s5 s17 s18 s19 (V m c main_v10) rfl (V m c main_arg1) (V m c main_v4) (V m c main_v5) (V m c main_v6) (V m c main_arg5) s0 s1 s2 s3 s4 s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outC2 (m ((c : Thread nD τ).loc main_arg6))) (funext fun y => congrArg (fun r => qc r (y 2)) (row_v10 m c (y 0) (y 1)))

theorem call6 : (kernelRun c (V m c main_v3) (V m c main_arg1) (V m c main_v4) (V m c main_v5) (V m c main_v6) (V m c main_arg5) (V m c main_v10) (V m c main_v11) (V m c main_arg8) s0 s1 s2 s3 s4 s5 s6 s7 s8 s9 s10 s11 s12 s13 s14 s15 s16 s17 s18 s19 s20 s21 s22 s23 (V m c main_v12_0) (V m c main_v12_1) (V m c main_v12_2) (V m c main_v12_3) (V m c main_v12_4) (V m c main_v12_5) (V m c main_v12_6)).1.2.2.2.2.2.2 = outS2 (m ((c : Thread nD τ).loc main_arg6)) :=
  (run_result6 c (V m c main_v3) (V m c main_v10) (V m c main_v11) (V m c main_arg8) s5 s17 s18 s19 (V m c main_v10) rfl (V m c main_arg1) (V m c main_v4) (V m c main_v5) (V m c main_v6) (V m c main_arg5) s0 s1 s2 s3 s4 s6 s7 s8 s9 s10 s11 s12 s13 s14 s15 s16 s20 s21 s22 s23 (V m c main_v12_0) (V m c main_v12_1) (V m c main_v12_2) (V m c main_v12_3) (V m c main_v12_4) (V m c main_v12_5) (V m c main_v12_6)).trans (b := _) (c := outS2 (m ((c : Thread nD τ).loc main_arg6))) (funext fun y => congrArg (fun r => qs r) (row_v10 m c (y 0) (y 1)))

end

set_option maxHeartbeats 4000000 in
/-- The call writes the layer's results. -/
theorem results : ResultsAre m (G m) := by
  intro c s0 s1 s2 s3 s4 s5 s6 s7 s8 s9 s10 s11 s12 s13 s14 s15 s16 s17 s18 s19 s20 s21 s22 s23
  have h0 := call0 m c s0 s1 s2 s3 s4 s5 s6 s7 s8 s9 s10 s11 s12 s13 s14 s15 s16 s17 s18 s19 s20 s21 s22 s23
  have h1 := call1 m c s0 s1 s2 s3 s4 s5 s6 s7 s8 s9 s10 s11 s12 s13 s14 s15 s16 s17 s18 s19 s20 s21 s22 s23
  have h2 := call2 m c s0 s1 s2 s3 s4 s5 s6 s7 s8 s9 s10 s11 s12 s13 s14 s15 s16 s17 s18 s19 s20 s21 s22 s23
  have h3 := call3 m c s0 s1 s2 s3 s4 s5 s6 s7 s8 s9 s10 s11 s12 s13 s14 s15 s16 s17 s18 s19 s20 s21 s22 s23
  have h4 := call4 m c s0 s1 s2 s3 s4 s5 s6 s7 s8 s9 s10 s11 s12 s13 s14 s15 s16 s17 s18 s19 s20 s21 s22 s23
  have h5 := call5 m c s0 s1 s2 s3 s4 s5 s6 s7 s8 s9 s10 s11 s12 s13 s14 s15 s16 s17 s18 s19 s20 s21 s22 s23
  have h6 := call6 m c s0 s1 s2 s3 s4 s5 s6 s7 s8 s9 s10 s11 s12 s13 s14 s15 s16 s17 s18 s19 s20 s21 s22 s23
  rw [G_0, G_1, G_2, G_3, G_4, G_5, G_6]
  exact Prod.ext h0 (Prod.ext h1 (Prod.ext h2 (Prod.ext h3 (Prod.ext h4 (Prod.ext h5 h6)))))

/-- The whole program's results, and its arguments. -/
theorem value : θ_run defs (onTc (τ := τ) (main (F := Ideal))) ⟨m, fun _ => 0, ρ⟩ (fun r => ∀ c : Dev nD,
      r.2.mem ((c : Thread nD τ).loc main_v12_0) = outH (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v12_1) = outC3 (midA (m ((c : Thread nD τ).loc main_arg0)) (m ((c : Thread nD τ).loc main_arg6)) (m ((c : Thread nD τ).loc main_arg7)) (m ((c : Thread nD τ).loc main_arg8))) (m ((c : Thread nD τ).loc main_arg1))
      ∧ r.2.mem ((c : Thread nD τ).loc main_v12_2) = outS3 (midA (m ((c : Thread nD τ).loc main_arg0)) (m ((c : Thread nD τ).loc main_arg6)) (m ((c : Thread nD τ).loc main_arg7)) (m ((c : Thread nD τ).loc main_arg8))) (m ((c : Thread nD τ).loc main_arg1))
      ∧ r.2.mem ((c : Thread nD τ).loc main_v12_3) = outC4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3))
      ∧ r.2.mem ((c : Thread nD τ).loc main_v12_4) = outS4 (midA (m ((c : Thread nD τ).loc main_arg0)) (m ((c : Thread nD τ).loc main_arg6)) (m ((c : Thread nD τ).loc main_arg7)) (m ((c : Thread nD τ).loc main_arg8))) (m ((c : Thread nD τ).loc main_arg1)) (m ((c : Thread nD τ).loc main_arg2)) (m ((c : Thread nD τ).loc main_arg3))
      ∧ r.2.mem ((c : Thread nD τ).loc main_v12_5) = outC2 (m ((c : Thread nD τ).loc main_arg6))
      ∧ r.2.mem ((c : Thread nD τ).loc main_v12_6) = outS2 (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨(h.1.written c (b := main_v12_0) (by decide)).trans (G_0 m c),
    (h.1.written c (b := main_v12_1) (by decide)).trans (G_1 m c),
    (h.1.written c (b := main_v12_2) (by decide)).trans (G_2 m c),
    (h.1.written c (b := main_v12_3) (by decide)).trans (G_3 m c),
    (h.1.written c (b := main_v12_4) (by decide)).trans (G_4 m c),
    (h.1.written c (b := main_v12_5) (by decide)).trans (G_5 m c),
    (h.1.written c (b := main_v12_6) (by decide)).trans (G_6 m c),
    ((h.1.toR c).2 main_arg0 (Finset.mem_sdiff.mpr ⟨Pipeline.mem_restRefs_of main_arg0 (by decide) (by decide), by decide⟩)).trans (V_main_arg0 m c),
    ((h.1.toR c).2 main_arg1 (Finset.mem_sdiff.mpr ⟨Pipeline.mem_restRefs_of main_arg1 (by decide) (by decide), by decide⟩)).trans (V_main_arg1 m c),
    ((h.1.toR c).2 main_arg2 (Finset.mem_sdiff.mpr ⟨Pipeline.mem_restRefs_of main_arg2 (by decide) (by decide), by decide⟩)).trans (V_main_arg2 m c),
    ((h.1.toR c).2 main_arg3 (Finset.mem_sdiff.mpr ⟨Pipeline.mem_restRefs_of main_arg3 (by decide) (by decide), by decide⟩)).trans (V_main_arg3 m c),
    ((h.1.toR c).2 main_arg4 (Finset.mem_sdiff.mpr ⟨Pipeline.mem_restRefs_of main_arg4 (by decide) (by decide), by decide⟩)).trans (V_main_arg4 m c),
    ((h.1.toR c).2 main_arg5 (Finset.mem_sdiff.mpr ⟨Pipeline.mem_restRefs_of main_arg5 (by decide) (by decide), by decide⟩)).trans (V_main_arg5 m c),
    ((h.1.toR c).2 main_arg6 (Finset.mem_sdiff.mpr ⟨Pipeline.mem_restRefs_of main_arg6 (by decide) (by decide), by decide⟩)).trans (V_main_arg6 m c),
    ((h.1.toR c).2 main_arg7 (Finset.mem_sdiff.mpr ⟨Pipeline.mem_restRefs_of main_arg7 (by decide) (by decide), by decide⟩)).trans (V_main_arg7 m c),
    ((h.1.toR c).2 main_arg8 (Finset.mem_sdiff.mpr ⟨Pipeline.mem_restRefs_of main_arg8 (by decide) (by decide), by decide⟩)).trans (V_main_arg8 m c)⟩) (run_main m ρ (G m) (results m))

end Cert.KernelIdeal.Hand
-- ==== Proof.Bridge.lean ====
module

public import proofs.«01_k».proof.Proof.Spec

/-!
# The same mathematics in the reference's order

The reference divides where the kernel multiplies by an inverse, and associates some products otherwise. On the extended
reals the two agree with no condition on the row.
-/

@[expose] public section

noncomputable section

namespace Cert.Ffn

open Idealize.ShloMosaic

/-- The largest code is 448. -/
theorem cMax_eq : cMax = ((448 : ℝ) : EReal) := by
  simp [cMax, Ideal.ofBits, Ideal.ieee, -EReal.coe_mul]; norm_num

/-- The model width's word is 1024. -/
theorem width_eq : Ideal.ofBits .f32 0x44800000#32 = ((1024 : ℝ) : EReal) := by
  simp [Ideal.ofBits, Ideal.ieee, -EReal.coe_mul]; norm_num

/-- Its inverse's word is one over 1024. -/
theorem recipD_eq : recipD = (((1024 : ℝ)⁻¹ : ℝ) : EReal) := by
  simp [recipD, Ideal.ofBits, Ideal.ieee, -EReal.coe_mul]; norm_num

/-- The epsilon is positive. -/
theorem eps_pos : 0 < eps := by
  simp [eps, Ideal.ofBits, Ideal.ieee, -EReal.coe_mul]

/-- Dividing by a scale that is not zero gives the code. -/
theorem div_code (s v : EReal) (h : s ≠ 0) : min cMax (max cMin (Ideal.div v s)) = code s v := by
  simp only [code, Ideal.div, if_neg h, one_mul]

/-- A scale is never zero. -/
theorem scale_ne_zero (a : EReal) (h : 0 ≤ a) : scale a ≠ 0 := by
  unfold scale
  split
  · exact one_ne_zero
  · next ha =>
    rw [Ideal.div, if_neg (by rw [cMax_eq]; norm_cast), cMax_eq, ← EReal.coe_inv]
    exact mul_ne_zero ha (by norm_cast; norm_num)

/-- The norm's scale is not zero. -/
theorem s3_ne_zero (x w : Fin 1024 → EReal) : s3 x w ≠ 0 := scale_ne_zero _ (amax_nonneg (by decide) _)

/-- The hidden values' scale is not zero. -/
theorem s4_ne_zero (x w : Fin 1024 → EReal) (gu : Fin 2 → Fin 1024 → Fin 4096 → EReal) (sg : Fin 2 → Fin 4096 → EReal) : s4 x w gu sg ≠ 0 :=
  scale_ne_zero _ (amax_nonneg (by decide) _)

theorem qs_ne_zero {n : ℕ} (h : 0 < n) (o : Fin n → EReal) : qs o ≠ 0 := scale_ne_zero _ (amax_nonneg h _)

/-- Dividing by the root of a positive number is multiplying by its inverse root. -/
theorem div_sqrt (v z : EReal) (h : 0 < z) : Ideal.div v (Ideal.sqrt z) = v * Ideal.rsqrt z := by
  induction z with
  | bot => exact absurd h (by simp)
  | top => rw [show Ideal.sqrt ⊤ = ⊤ from rfl, show Ideal.rsqrt ⊤ = 0 from rfl, Ideal.div, if_neg EReal.top_ne_zero, EReal.inv_top]
  | coe r =>
    have hr : 0 < r := by exact_mod_cast h
    have hs : Real.sqrt r ≠ 0 := (Real.sqrt_pos.2 hr).ne'
    rw [show Ideal.sqrt (r : EReal) = if r < 0 then ⊥ else (Real.sqrt r : EReal) from rfl,
      show Ideal.rsqrt (r : EReal) = if r < 0 then ⊥ else if r = 0 then ⊤ else (((Real.sqrt r)⁻¹ : ℝ) : EReal) from rfl, if_neg (not_lt.2 hr.le), if_neg (not_lt.2 hr.le), if_neg hr.ne',
      Ideal.div, if_neg (by exact_mod_cast hs), EReal.coe_inv]

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- Dividing by the width is multiplying by its inverse. -/
theorem div_width (z : EReal) : Ideal.div z (Ideal.ofBits .f32 0x44800000#32) = z * recipD := by
  rw [width_eq, recipD_eq, Ideal.div, if_neg (by norm_cast), ← EReal.coe_inv]

/-- The norm with a quotient and a root. -/
theorem normed_eq (x w : Fin 1024 → EReal) (k : Fin 1024) :
    Ideal.div (x k) (Ideal.sqrt (Ideal.div (∑ j, x j * x j) (Ideal.ofBits .f32 0x44800000#32) + eps)) * (1 + w k) = normed x w k := by
  rw [div_width, div_sqrt]
  · rfl
  · refine lt_of_lt_of_le eps_pos (le_add_of_nonneg_left (mul_nonneg (Finset.sum_nonneg fun j _ => sq_nonneg' _) ?_))
    rw [recipD_eq]; norm_cast; positivity

/-- The GELU in the reference's order. -/
theorem gelu_eq (g : EReal) : g * (half * (1 + Ideal.tanh (gC * (g + gCube * (g * (g * g)))))) = gelu g := by
  unfold gelu
  rw [mul_left_comm, mul_assoc, mul_assoc g g g]

end Cert.Ffn
-- ==== Proof.ReferenceNorm.lean ====
module

public import proofs.«01_k».proof.Proof.Gen.ReferenceIdeal.Value
public import proofs.«01_k».proof.Proof.Layer
public import proofs.«01_k».proof.Proof.Bridge

/-!
# The reference's norm, its scale and its codes
-/

@[expose] public section

noncomputable section

namespace Cert.ReferenceIdeal.Hand

open Cert.ReferenceIdeal Cert.ReferenceIdeal.Gen Cert.Ffn
open Idealize.ShloMosaic

variable (x : FVec Ideal S6x51x1024 .f32) (v33 : FVec Ideal S1024 .f32) (v36 v37 : FVec Ideal S6x51x1 .f32) (w : Fin 1024 → EReal)
  (h33 : ∀ k, v33 (ix1 k) = w k) (h36 : ∀ b s, v36 (ix3 b s 0) = ∑ k : Fin 1024, x (ix3 b s k) * x (ix3 b s k))
  (h37 : ∀ b s, v37 (ix3 b s 0) = Ideal.ofBits .f32 0x44800000#32)

include h33 h36 h37 in
/-- The norm. -/
theorem pay8_apply (b : Fin 6) (s : Fin 51) (k : Fin 1024) : k0_pay8 (F := Ideal) x v33 v36 v37 (ix3 b s k) = normed (lrow x b s) w k := by
  rw [← normed_eq]
  pointwise [k0_pay8]
  rw [h33, h36, h37]
  rfl

include h33 h36 h37 in
/-- Its scale. -/
theorem pay9_apply (b : Fin 6) (s : Fin 51) : k0_pay9 (F := Ideal) x v33 v36 v37 (ix2 b s) = Ffn.s3 (lrow x b s) w := by
  pointwise [k0_pay9]
  simp only [pay8_apply x v33 v36 v37 w h33 h36 h37]
  rfl

include h33 h36 h37 in
/-- Its codes. -/
theorem pay10_apply (b : Fin 6) (s : Fin 51) (k : Fin 1024) : k0_pay10 (F := Ideal) x v33 v36 v37 (ix3 b s k) = c3 (lrow x b s) w k := by
  rw [c3, ← div_code _ _ (s3_ne_zero _ _)]
  pointwise [k0_pay10]
  rw [pay8_apply x v33 v36 v37 w h33 h36 h37, pay9_apply x v33 v36 v37 w h33 h36 h37]

/-- The row's sum of squares. -/
theorem pay6_apply (a6 : FVec Ideal S6x51x2048 .f32) (a0 : FVec Ideal S6x51x1024 .f32) (a7 : FVec Ideal S1x2048x1024 .fp8e4m3) (a8 : FVec Ideal S1x1024 .f32) (b : Fin 6) (s : Fin 51) :
    k0_pay6 (F := Ideal) a6 a0 a7 a8 (ix3 b s 0) = ∑ k : Fin 1024, k0_pay4 (F := Ideal) a6 a0 a7 a8 (ix3 b s k) * k0_pay4 (F := Ideal) a6 a0 a7 a8 (ix3 b s k) := by
  generalize h : k0_pay4 (F := Ideal) a6 a0 a7 a8 = u
  pointwise [k0_pay6]
  rw [h]

theorem pay5_apply (a1 : FVec Ideal S1x1024 .f32) (k : Fin 1024) : k0_pay5 (F := Ideal) a1 (ix1 k) = lw a1 k := by
  pointwise [k0_pay5]
  rfl

theorem pay7_apply (b : Fin 6) (s : Fin 51) : k0_pay7 (F := Ideal) (ix3 b s 0) = Ideal.ofBits .f32 0x44800000#32 := by
  pointwise [k0_pay7]

end Cert.ReferenceIdeal.Hand
-- ==== Proof.ReferenceGate.lean ====
module

public import proofs.«01_k».proof.Proof.ReferenceNorm

/-!
# The reference's gate and up products
-/

@[expose] public section

noncomputable section

namespace Cert.ReferenceIdeal.Hand

open Cert.ReferenceIdeal Cert.ReferenceIdeal.Gen Cert.Ffn
open Idealize.ShloMosaic

/-- The gate's product, scaled. -/
theorem pay11_apply (x : FVec Ideal S6x51x1024 .f32) (v33 : FVec Ideal S1024 .f32) (v36 v37 : FVec Ideal S6x51x1 .f32) (W : FVec Ideal S1x1x1024x4096 .fp8e4m3) (sg : FVec Ideal S1x1x4096 .f32)
    (b : Fin 6) (s : Fin 51) (j : Fin 4096) :
    k0_pay11 (F := Ideal) x v33 v36 v37 W sg (ix3 b s j)
      = (∑ k : Fin 1024, k0_pay10 (F := Ideal) x v33 v36 v37 (ix3 b s k) * W (ix4 0 0 k j)) * k0_pay9 (F := Ideal) x v33 v36 v37 (ix2 b s) * sg (ix3 0 0 j) := by
  generalize h : k0_pay9 (F := Ideal) x v33 v36 v37 = u
  generalize h' : k0_pay10 (F := Ideal) x v33 v36 v37 = v
  pointwise [k0_pay11]
  rw [h, h']

/-- The gated product. -/
theorem pay12_apply (v56 : FVec Ideal S6x51 .f32) (v64 : FVec Ideal S6x51x1024 .fp8e4m3) (v77 : FVec Ideal S6x51x4096 .f32) (W : FVec Ideal S1x1x1024x4096 .fp8e4m3) (su : FVec Ideal S1x1x4096 .f32)
    (b : Fin 6) (s : Fin 51) (j : Fin 4096) :
    k0_pay12 (F := Ideal) v56 v64 v77 W su (ix3 b s j)
      = gelu (v77 (ix3 b s j)) * ((∑ k : Fin 1024, v64 (ix3 b s k) * W (ix4 0 0 k j)) * v56 (ix2 b s) * su (ix3 0 0 j)) := by
  rw [← gelu_eq]
  pointwise [k0_pay12]

end Cert.ReferenceIdeal.Hand
-- ==== Proof.ReferenceOut.lean ====
module

public import proofs.«01_k».proof.Proof.Gen.ReferenceIdeal.Value
public import proofs.«01_k».proof.Proof.Layer
public import proofs.«01_k».proof.Proof.Bridge

/-!
# The reference's quantiser of the attention output, and its output product
-/

@[expose] public section

noncomputable section

namespace Cert.ReferenceIdeal.Hand

open Cert.ReferenceIdeal Cert.ReferenceIdeal.Gen Cert.Ffn
open Idealize.ShloMosaic

variable (a0 : FVec Ideal S6x51x1024 .f32) (a6 : FVec Ideal S6x51x2048 .f32) (a7 : FVec Ideal S1x2048x1024 .fp8e4m3) (a8 : FVec Ideal S1x1024 .f32)

/-- The scale of a row. -/
theorem pay2_apply (b : Fin 6) (s : Fin 51) : k0_pay2 (F := Ideal) a6 (ix2 b s) = qs (lo a6 b s) := by
  pointwise [k0_pay2]
  rfl

/-- A row's codes. -/
theorem pay3_apply (b : Fin 6) (s : Fin 51) (k : Fin 2048) : k0_pay3 (F := Ideal) a6 (ix3 b s k) = qc (lo a6 b s) k := by
  rw [qc, ← div_code _ _ (qs_ne_zero (by decide) _)]
  pointwise [k0_pay3]
  rw [pay2_apply]
  rfl

/-- The residual after the output product. -/
theorem pay4_apply (b : Fin 6) (s : Fin 51) (k : Fin 1024) : k0_pay4 (F := Ideal) a6 a0 a7 a8 (ix3 b s k) = midA a0 a6 a7 a8 (ix3 b s k) := by
  have h2 := pay2_apply a6 b s
  have h3 := pay3_apply a6 b s
  have e : k0_pay4 (F := Ideal) a6 a0 a7 a8 (ix3 b s k)
      = a0 (ix3 b s k) + (∑ j : Fin 2048, k0_pay3 (F := Ideal) a6 (ix3 b s j) * a7 (ix3 0 j k)) * k0_pay2 (F := Ideal) a6 (ix2 b s) * a8 (ix2 0 k) := by
    generalize h : k0_pay2 (F := Ideal) a6 = u
    generalize h' : k0_pay3 (F := Ideal) a6 = w
    pointwise [k0_pay4]
    rw [h, h']
  rw [e, h2, Finset.sum_congr rfl fun j _ => congrArg (· * a7 (ix3 0 j k)) (h3 j)]
  rfl

end Cert.ReferenceIdeal.Hand
-- ==== Proof.ReferenceHidden.lean ====
module

public import proofs.«01_k».proof.Proof.ReferenceGate
public import proofs.«01_k».proof.Proof.ReferenceOut

/-!
# The reference's norm and hidden values, from its arguments
-/

@[expose] public section

noncomputable section

namespace Cert.ReferenceIdeal.Hand

open Cert.ReferenceIdeal Cert.ReferenceIdeal.Gen Cert.Ffn
open Idealize.ShloMosaic

variable (a0 : FVec Ideal S6x51x1024 .f32) (a1 : FVec Ideal S1x1024 .f32) (a2 : FVec Ideal S1x2x1024x4096 .fp8e4m3) (a3 : FVec Ideal S1x2x4096 .f32)
  (a4 : FVec Ideal S1x4096x1024 .fp8e4m3) (a5 : FVec Ideal S1x1024 .f32) (a6 : FVec Ideal S6x51x2048 .f32) (a7 : FVec Ideal S1x2048x1024 .fp8e4m3) (a8 : FVec Ideal S1x1024 .f32)

theorem ld_o : View.ld (Val := Elt Ideal) (e' := .f32) a6 r0_0 = a6 := View.ld_unit_zero (Val := Elt Ideal) (e := .f32) (S := S6x51x2048) (off := ![0, 0, 0]) (by decide) inb_S6x51x2048_S6x51x2048_0_0_0 a6

theorem ld_x : View.ld (Val := Elt Ideal) (e' := .f32) a0 r0_1 = a0 := View.ld_unit_zero (Val := Elt Ideal) (e := .f32) (S := S6x51x1024) (off := ![0, 0, 0]) (by decide) inb_S6x51x1024_S6x51x1024_0_0_0 a0

theorem ld_wo : View.ld (Val := Elt Ideal) (e' := .fp8e4m3) a7 r0_2 = a7 :=
  View.ld_unit_zero (Val := Elt Ideal) (e := .fp8e4m3) (S := S1x2048x1024) (off := ![0, 0, 0]) (by decide) inb_S1x2048x1024_S1x2048x1024_0_0_0 a7

theorem ld_w : View.ld (Val := Elt Ideal) (e' := .f32) a1 r0_3 = a1 := View.ld_unit_zero (Val := Elt Ideal) (e := .f32) (S := S1x1024) (off := ![0, 0]) (by decide) inb_S1x1024_S1x1024_0_0 a1

/-- The gate's half of the weights. -/
theorem ld_gate (k : Fin 1024) (j : Fin 4096) : View.ld (Val := Elt Ideal) (e' := .fp8e4m3) a2 r0_4 (ix4 0 0 k j) = lgu a2 0 k j :=
  congrArg a2 (by funext d; fin_cases d <;> exact Fin.ext (by simp [r0_4]))

/-- The up projection's half. -/
theorem ld_up (k : Fin 1024) (j : Fin 4096) : View.ld (Val := Elt Ideal) (e' := .fp8e4m3) a2 r0_6 (ix4 0 0 k j) = lgu a2 1 k j :=
  congrArg a2 (by funext d; fin_cases d <;> exact Fin.ext (by simp [r0_6]))

/-- The gate's scales. -/
theorem ld_gateScale (j : Fin 4096) : View.ld (Val := Elt Ideal) (e' := .f32) a3 r0_5 (ix3 0 0 j) = lsg a3 0 j :=
  congrArg a3 (by funext d; fin_cases d <;> exact Fin.ext (by simp [r0_5]))

/-- The up projection's scales. -/
theorem ld_upScale (j : Fin 4096) : View.ld (Val := Elt Ideal) (e' := .f32) a3 r0_7 (ix3 0 0 j) = lsg a3 1 j :=
  congrArg a3 (by funext d; fin_cases d <;> exact Fin.ext (by simp [r0_7]))

/-- The residual after the output product. -/
theorem p15_eq : k0_pay15 (F := Ideal) a0 a1 a2 a3 a4 a5 a6 a7 a8 = midA a0 a6 a7 a8 := by
  funext y
  rw [k0_pay15, ld_o, ld_x, ld_wo, ld_w, eq_ix3 y]
  exact pay4_apply a0 a6 a7 a8 (y 0) (y 1) (y 2)

theorem p16_apply (k : Fin 1024) : k0_pay16 (F := Ideal) a0 a1 a2 a3 a4 a5 a6 a7 a8 (ix1 k) = lw a1 k := by
  rw [k0_pay16, ld_w]; exact pay5_apply a1 k

theorem p17_apply (b : Fin 6) (s : Fin 51) : k0_pay17 (F := Ideal) a0 a1 a2 a3 a4 a5 a6 a7 a8 (ix3 b s 0) = ∑ k : Fin 1024, midA a0 a6 a7 a8 (ix3 b s k) * midA a0 a6 a7 a8 (ix3 b s k) := by
  rw [k0_pay17, ld_o, ld_x, ld_wo, ld_w, pay6_apply]
  exact Finset.sum_congr rfl fun k _ => by rw [pay4_apply]

theorem p18_apply (b : Fin 6) (s : Fin 51) : k0_pay18 (F := Ideal) a0 a1 a2 a3 a4 a5 a6 a7 a8 (ix3 b s 0) = Ideal.ofBits .f32 0x44800000#32 := by
  rw [k0_pay18]; exact pay7_apply b s

theorem p19_apply (b : Fin 6) (s : Fin 51) : k0_pay19 (F := Ideal) a0 a1 a2 a3 a4 a5 a6 a7 a8 (ix2 b s) = Ffn.s3 (lrow (midA a0 a6 a7 a8) b s) (lw a1) := by
  rw [k0_pay19, p15_eq]; exact pay9_apply (midA a0 a6 a7 a8) _ _ _ (lw a1) (p16_apply a0 a1 a2 a3 a4 a5 a6 a7 a8) (p17_apply a0 a1 a2 a3 a4 a5 a6 a7 a8) (p18_apply a0 a1 a2 a3 a4 a5 a6 a7 a8) b s

theorem p20_apply (b : Fin 6) (s : Fin 51) (k : Fin 1024) : k0_pay20 (F := Ideal) a0 a1 a2 a3 a4 a5 a6 a7 a8 (ix3 b s k) = c3 (lrow (midA a0 a6 a7 a8) b s) (lw a1) k := by
  rw [k0_pay20, p15_eq]; exact pay10_apply (midA a0 a6 a7 a8) _ _ _ (lw a1) (p16_apply a0 a1 a2 a3 a4 a5 a6 a7 a8) (p17_apply a0 a1 a2 a3 a4 a5 a6 a7 a8) (p18_apply a0 a1 a2 a3 a4 a5 a6 a7 a8) b s k

/-- The gate. -/
theorem p21_apply (b : Fin 6) (s : Fin 51) (j : Fin 4096) :
    k0_pay21 (F := Ideal) a0 a1 a2 a3 a4 a5 a6 a7 a8 (ix3 b s j) = (∑ k, c3 (lrow (midA a0 a6 a7 a8) b s) (lw a1) k * lgu a2 0 k j) * Ffn.s3 (lrow (midA a0 a6 a7 a8) b s) (lw a1) * lsg a3 0 j := by
  have h : ∀ k, k0_pay10 (F := Ideal) (midA a0 a6 a7 a8) (k0_pay16 (F := Ideal) a0 a1 a2 a3 a4 a5 a6 a7 a8) (k0_pay17 (F := Ideal) a0 a1 a2 a3 a4 a5 a6 a7 a8) (k0_pay18 (F := Ideal) a0 a1 a2 a3 a4 a5 a6 a7 a8) (ix3 b s k)
      * View.ld (Val := Elt Ideal) (e' := .fp8e4m3) a2 r0_4 (ix4 0 0 k j) = c3 (lrow (midA a0 a6 a7 a8) b s) (lw a1) k * lgu a2 0 k j := fun k => by
    rw [pay10_apply (midA a0 a6 a7 a8) _ _ _ (lw a1) (p16_apply a0 a1 a2 a3 a4 a5 a6 a7 a8) (p17_apply a0 a1 a2 a3 a4 a5 a6 a7 a8) (p18_apply a0 a1 a2 a3 a4 a5 a6 a7 a8) b s k, ld_gate]
  rw [k0_pay21, p15_eq, pay11_apply, pay9_apply (midA a0 a6 a7 a8) _ _ _ (lw a1) (p16_apply a0 a1 a2 a3 a4 a5 a6 a7 a8) (p17_apply a0 a1 a2 a3 a4 a5 a6 a7 a8) (p18_apply a0 a1 a2 a3 a4 a5 a6 a7 a8) b s, ld_gateScale, Finset.sum_congr rfl fun k _ => h k]

/-- The hidden values. -/
theorem hid_apply (b : Fin 6) (s : Fin 51) (j : Fin 4096) :
    k0_pay12 (F := Ideal) (k0_pay19 (F := Ideal) a0 a1 a2 a3 a4 a5 a6 a7 a8) (k0_pay20 (F := Ideal) a0 a1 a2 a3 a4 a5 a6 a7 a8) (k0_pay21 (F := Ideal) a0 a1 a2 a3 a4 a5 a6 a7 a8) (View.ld (Val := Elt Ideal) (e' := .fp8e4m3) a2 r0_6) (View.ld (Val := Elt Ideal) (e' := .f32) a3 r0_7) (ix3 b s j)
      = hid (lrow (midA a0 a6 a7 a8) b s) (lw a1) (lgu a2) (lsg a3) j := by
  have h : ∀ k, k0_pay20 (F := Ideal) a0 a1 a2 a3 a4 a5 a6 a7 a8 (ix3 b s k) * View.ld (Val := Elt Ideal) (e' := .fp8e4m3) a2 r0_6 (ix4 0 0 k j)
      = c3 (lrow (midA a0 a6 a7 a8) b s) (lw a1) k * lgu a2 1 k j := fun k => by rw [p20_apply, ld_up]
  rw [pay12_apply, p21_apply, p19_apply, ld_upScale, Finset.sum_congr rfl fun k _ => h k]
  rfl

end Cert.ReferenceIdeal.Hand
-- ==== Proof.ReferenceDown.lean ====
module

public import proofs.«01_k».proof.Proof.Gen.ReferenceIdeal.Value
public import proofs.«01_k».proof.Proof.Layer
public import proofs.«01_k».proof.Proof.Bridge

/-!
# The reference's scales of a gated row, its codes and its down product
-/

@[expose] public section

noncomputable section

namespace Cert.ReferenceIdeal.Hand

open Cert.ReferenceIdeal Cert.ReferenceIdeal.Gen Cert.Ffn
open Idealize.ShloMosaic

section
variable (v56 : FVec Ideal S6x51 .f32) (v64 : FVec Ideal S6x51x1024 .fp8e4m3) (v77 : FVec Ideal S6x51x4096 .f32) (W : FVec Ideal S1x1x1024x4096 .fp8e4m3) (su : FVec Ideal S1x1x4096 .f32)
  (h : Fin 4096 → EReal) (b : Fin 6) (s : Fin 51) (hh : ∀ j, k0_pay12 (F := Ideal) v56 v64 v77 W su (ix3 b s j) = h j)

include hh in
/-- The scale of the gated product's rows. -/
theorem pay13_apply : k0_pay13 (F := Ideal) v56 v64 v77 W su (ix2 b s) = scale (amax h) := by
  pointwise [k0_pay13]
  simp only [hh]
  rfl

include hh in
/-- A value's code at its row's scale. -/
theorem pay14_apply (j : Fin 4096) : k0_pay14 (F := Ideal) v56 v64 v77 W su (ix3 b s j) = min cMax (max cMin (Ideal.div (h j) (scale (amax h)))) := by
  rw [← pay13_apply v56 v64 v77 W su h b s hh, ← hh]
  generalize e : k0_pay13 (F := Ideal) v56 v64 v77 W su = u
  generalize e' : k0_pay12 (F := Ideal) v56 v64 v77 W su = v
  pointwise [k0_pay14]
  rw [e, e']
end

/-- The new residual, from the codes. -/
theorem pay1_apply (x : FVec Ideal S6x51x1024 .f32) (v112 : FVec Ideal S6x51 .f32) (v120 : FVec Ideal S6x51x4096 .fp8e4m3) (a4 : FVec Ideal S1x4096x1024 .fp8e4m3) (a5 : FVec Ideal S1x1024 .f32)
    (b : Fin 6) (s : Fin 51) (k : Fin 1024) :
    k0_pay1 (F := Ideal) x v112 v120 a4 a5 (ix3 b s k) = x (ix3 b s k) + (∑ j : Fin 4096, v120 (ix3 b s j) * a4 (ix3 0 j k)) * v112 (ix2 b s) * a5 (ix2 0 k) := by
  pointwise [k0_pay1]

end Cert.ReferenceIdeal.Hand
-- ==== Proof.ReferenceValue.lean ====
module

public import proofs.«01_k».proof.Proof.ReferenceHidden
public import proofs.«01_k».proof.Proof.ReferenceDown

/-!
# The reference's results are the layer's
-/

@[expose] public section

noncomputable section

namespace Cert.ReferenceIdeal.Hand

open Cert.ReferenceIdeal Cert.ReferenceIdeal.Gen Cert.Ffn
open Idealize.ShloMosaic

variable (a0 : FVec Ideal S6x51x1024 .f32) (a1 : FVec Ideal S1x1024 .f32) (a2 : FVec Ideal S1x2x1024x4096 .fp8e4m3) (a3 : FVec Ideal S1x2x4096 .f32)
  (a4 : FVec Ideal S1x4096x1024 .fp8e4m3) (a5 : FVec Ideal S1x1024 .f32) (a6 : FVec Ideal S6x51x2048 .f32) (a7 : FVec Ideal S1x2048x1024 .fp8e4m3) (a8 : FVec Ideal S1x1024 .f32)

/-- The hidden values' scale. -/
theorem p22_apply (b : Fin 6) (s : Fin 51) : k0_pay22 (F := Ideal) a0 a1 a2 a3 a4 a5 a6 a7 a8 (ix2 b s) = Ffn.s4 (lrow (midA a0 a6 a7 a8) b s) (lw a1) (lgu a2) (lsg a3) := by
  rw [k0_pay22]
  exact pay13_apply _ _ _ _ _ _ b s fun j => hid_apply a0 a1 a2 a3 a4 a5 a6 a7 a8 b s j

/-- The hidden codes. -/
theorem p23_apply (b : Fin 6) (s : Fin 51) (j : Fin 4096) : k0_pay23 (F := Ideal) a0 a1 a2 a3 a4 a5 a6 a7 a8 (ix3 b s j) = c4 (lrow (midA a0 a6 a7 a8) b s) (lw a1) (lgu a2) (lsg a3) j := by
  rw [k0_pay23, pay14_apply _ _ _ _ _ _ b s (fun j => hid_apply a0 a1 a2 a3 a4 a5 a6 a7 a8 b s j)]
  exact div_code _ _ (s4_ne_zero _ _ _ _)

/-- The new residual. -/
theorem res_apply (b : Fin 6) (s : Fin 51) (k : Fin 1024) :
    Value.G9 (F := Ideal) a0 a1 a2 a3 a4 a5 a6 a7 a8 (ix3 b s k) = res (lrow (midA a0 a6 a7 a8) b s) (lw a1) (lgu a2) (lsg a3) (ldn a4) (lsd a5) k := by
  refine (pay1_apply _ _ _ a4 a5 b s k).trans ?_
  rw [p15_eq, p22_apply, Finset.sum_congr rfl fun j _ => congrArg (· * a4 (ix3 0 j k)) (p23_apply a0 a1 a2 a3 a4 a5 a6 a7 a8 b s j)]
  rfl

/-! ## The seven arrays -/

theorem G9_eq : Value.G9 (F := Ideal) a0 a1 a2 a3 a4 a5 a6 a7 a8 = outH (midA a0 a6 a7 a8) a1 a2 a3 a4 a5 := by
  funext y
  rw [eq_ix3 y]
  exact res_apply a0 a1 a2 a3 a4 a5 a6 a7 a8 (y 0) (y 1) (y 2)

theorem G10_eq : Value.G10 (F := Ideal) a0 a1 a2 a3 a4 a5 a6 a7 a8 = outC3 (midA a0 a6 a7 a8) a1 := by
  funext y
  rw [eq_ix3 y]
  exact p20_apply a0 a1 a2 a3 a4 a5 a6 a7 a8 (y 0) (y 1) (y 2)

theorem G11_eq : Value.G11 (F := Ideal) a0 a1 a2 a3 a4 a5 a6 a7 a8 = outS3 (midA a0 a6 a7 a8) a1 := by
  funext y
  rw [eq_ix2 y]
  exact p19_apply a0 a1 a2 a3 a4 a5 a6 a7 a8 (y 0) (y 1)

theorem G12_eq : Value.G12 (F := Ideal) a0 a1 a2 a3 a4 a5 a6 a7 a8 = outC4 (midA a0 a6 a7 a8) a1 a2 a3 := by
  funext y
  rw [eq_ix3 y]
  exact p23_apply a0 a1 a2 a3 a4 a5 a6 a7 a8 (y 0) (y 1) (y 2)

theorem G13_eq : Value.G13 (F := Ideal) a0 a1 a2 a3 a4 a5 a6 a7 a8 = outS4 (midA a0 a6 a7 a8) a1 a2 a3 := by
  funext y
  rw [eq_ix2 y]
  exact p22_apply a0 a1 a2 a3 a4 a5 a6 a7 a8 (y 0) (y 1)

theorem G14_eq : Value.G14 (F := Ideal) a0 a1 a2 a3 a4 a5 a6 a7 a8 = outC2 a6 := by
  funext y
  rw [eq_ix3 y]
  exact pay3_apply a6 (y 0) (y 1) (y 2)

theorem G15_eq : Value.G15 (F := Ideal) a0 a1 a2 a3 a4 a5 a6 a7 a8 = outS2 a6 := by
  funext y
  rw [eq_ix2 y]
  exact pay2_apply a6 (y 0) (y 1)

end Cert.ReferenceIdeal.Hand
-- ==== Proof.Equal.lean ====
module

public import proofs.«01_k».proof.Defs
public import proofs.«01_k».proof.Proof.KernelIdealValue
public import proofs.«01_k».proof.Proof.ReferenceValue

/-!
# The kernel and the reference agree

From equal arguments both programs end with the seven results and with their arguments unchanged.
-/

@[expose] public section

noncomputable section

namespace Cert.Proof

open Idealize.ShloMosaic Idealize.ShloMosaic.TcCoe Idealize.SL.Sem Cert.Ffn

/-- The reference's results, from the nine arguments. -/
theorem reference_value (m : (ℓ : Loc Cert.ReferenceIdeal.nD Cert.ReferenceIdeal.τ Cert.ReferenceIdeal.sig) → Buf (Elt Ideal) ℓ) (ρ : Dev Cert.ReferenceIdeal.nD → PrngReg)
    (x0 : Dev Cert.ReferenceIdeal.nD → FVec Ideal Cert.ReferenceIdeal.S6x51x1024 .f32) (x1 : Dev Cert.ReferenceIdeal.nD → FVec Ideal Cert.ReferenceIdeal.S1x1024 .f32)
    (x2 : Dev Cert.ReferenceIdeal.nD → FVec Ideal Cert.ReferenceIdeal.S1x2x1024x4096 .fp8e4m3) (x3 : Dev Cert.ReferenceIdeal.nD → FVec Ideal Cert.ReferenceIdeal.S1x2x4096 .f32)
    (x4 : Dev Cert.ReferenceIdeal.nD → FVec Ideal Cert.ReferenceIdeal.S1x4096x1024 .fp8e4m3) (x5 : Dev Cert.ReferenceIdeal.nD → FVec Ideal Cert.ReferenceIdeal.S1x1024 .f32)
    (x6 : Dev Cert.ReferenceIdeal.nD → FVec Ideal Cert.ReferenceIdeal.S6x51x2048 .f32) (x7 : Dev Cert.ReferenceIdeal.nD → FVec Ideal Cert.ReferenceIdeal.S1x2048x1024 .fp8e4m3)
    (x8 : Dev Cert.ReferenceIdeal.nD → FVec Ideal Cert.ReferenceIdeal.S1x1024 .f32)
    (h : ∀ c : Dev Cert.ReferenceIdeal.nD, m ((c : Thread Cert.ReferenceIdeal.nD Cert.ReferenceIdeal.τ).loc Cert.ReferenceIdeal.main_arg0) = x0 c
      ∧ m ((c : Thread Cert.ReferenceIdeal.nD Cert.ReferenceIdeal.τ).loc Cert.ReferenceIdeal.main_arg1) = x1 c
      ∧ m ((c : Thread Cert.ReferenceIdeal.nD Cert.ReferenceIdeal.τ).loc Cert.ReferenceIdeal.main_arg2) = x2 c
      ∧ m ((c : Thread Cert.ReferenceIdeal.nD Cert.ReferenceIdeal.τ).loc Cert.ReferenceIdeal.main_arg3) = x3 c
      ∧ m ((c : Thread Cert.ReferenceIdeal.nD Cert.ReferenceIdeal.τ).loc Cert.ReferenceIdeal.main_arg4) = x4 c
      ∧ m ((c : Thread Cert.ReferenceIdeal.nD Cert.ReferenceIdeal.τ).loc Cert.ReferenceIdeal.main_arg5) = x5 c
      ∧ m ((c : Thread Cert.ReferenceIdeal.nD Cert.ReferenceIdeal.τ).loc Cert.ReferenceIdeal.main_arg6) = x6 c
      ∧ m ((c : Thread Cert.ReferenceIdeal.nD Cert.ReferenceIdeal.τ).loc Cert.ReferenceIdeal.main_arg7) = x7 c
      ∧ m ((c : Thread Cert.ReferenceIdeal.nD Cert.ReferenceIdeal.τ).loc Cert.ReferenceIdeal.main_arg8) = x8 c) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c : Thread Cert.ReferenceIdeal.nD Cert.ReferenceIdeal.τ).loc Cert.ReferenceIdeal.main_v0_0) = outH (midA (x0 c) (x6 c) (x7 c) (x8 c)) (x1 c) (x2 c) (x3 c) (x4 c) (x5 c)
      ∧ r.2.mem ((c : Thread Cert.ReferenceIdeal.nD Cert.ReferenceIdeal.τ).loc Cert.ReferenceIdeal.main_v0_1) = outC3 (midA (x0 c) (x6 c) (x7 c) (x8 c)) (x1 c)
      ∧ r.2.mem ((c : Thread Cert.ReferenceIdeal.nD Cert.ReferenceIdeal.τ).loc Cert.ReferenceIdeal.main_v0_2) = outS3 (midA (x0 c) (x6 c) (x7 c) (x8 c)) (x1 c)
      ∧ r.2.mem ((c : Thread Cert.ReferenceIdeal.nD Cert.ReferenceIdeal.τ).loc Cert.ReferenceIdeal.main_v0_3) = outC4 (midA (x0 c) (x6 c) (x7 c) (x8 c)) (x1 c) (x2 c) (x3 c)
      ∧ r.2.mem ((c : Thread Cert.ReferenceIdeal.nD Cert.ReferenceIdeal.τ).loc Cert.ReferenceIdeal.main_v0_4) = outS4 (midA (x0 c) (x6 c) (x7 c) (x8 c)) (x1 c) (x2 c) (x3 c)
      ∧ r.2.mem ((c : Thread Cert.ReferenceIdeal.nD Cert.ReferenceIdeal.τ).loc Cert.ReferenceIdeal.main_v0_5) = outC2 (x6 c)
      ∧ r.2.mem ((c : Thread Cert.ReferenceIdeal.nD Cert.ReferenceIdeal.τ).loc Cert.ReferenceIdeal.main_v0_6) = outS2 (x6 c)
      ∧ r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
      ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
      ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
      ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
      ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4)
      ∧ r.2.mem ((c : Thread Cert.ReferenceIdeal.nD Cert.ReferenceIdeal.τ).loc Cert.ReferenceIdeal.main_arg5) = m ((c : Thread Cert.ReferenceIdeal.nD Cert.ReferenceIdeal.τ).loc Cert.ReferenceIdeal.main_arg5)
      ∧ r.2.mem ((c : Thread Cert.ReferenceIdeal.nD Cert.ReferenceIdeal.τ).loc Cert.ReferenceIdeal.main_arg6) = m ((c : Thread Cert.ReferenceIdeal.nD Cert.ReferenceIdeal.τ).loc Cert.ReferenceIdeal.main_arg6)
      ∧ r.2.mem ((c : Thread Cert.ReferenceIdeal.nD Cert.ReferenceIdeal.τ).loc Cert.ReferenceIdeal.main_arg7) = m ((c : Thread Cert.ReferenceIdeal.nD Cert.ReferenceIdeal.τ).loc Cert.ReferenceIdeal.main_arg7)
      ∧ r.2.mem ((c : Thread Cert.ReferenceIdeal.nD Cert.ReferenceIdeal.τ).loc Cert.ReferenceIdeal.main_arg8) = m ((c : Thread Cert.ReferenceIdeal.nD Cert.ReferenceIdeal.τ).loc Cert.ReferenceIdeal.main_arg8)) :=
  (θ_run _ _ _).mono (fun _ hr c => by
    obtain ⟨r0, r1, r2, r3, r4, r5, r6, k⟩ := hr c
    obtain ⟨h0, h1, h2, h3, h4, h5, h6, h7, h8⟩ := h c
    rw [h0, h1, h2, h3, h4, h5, h6, h7, h8] at r0 r1 r2 r3 r4 r5 r6
    exact ⟨r0.trans (Cert.ReferenceIdeal.Hand.G9_eq (x0 c) (x1 c) (x2 c) (x3 c) (x4 c) (x5 c) (x6 c) (x7 c) (x8 c)), r1.trans (Cert.ReferenceIdeal.Hand.G10_eq (x0 c) (x1 c) (x2 c) (x3 c) (x4 c) (x5 c) (x6 c) (x7 c) (x8 c)), r2.trans (Cert.ReferenceIdeal.Hand.G11_eq (x0 c) (x1 c) (x2 c) (x3 c) (x4 c) (x5 c) (x6 c) (x7 c) (x8 c)), r3.trans (Cert.ReferenceIdeal.Hand.G12_eq (x0 c) (x1 c) (x2 c) (x3 c) (x4 c) (x5 c) (x6 c) (x7 c) (x8 c)), r4.trans (Cert.ReferenceIdeal.Hand.G13_eq (x0 c) (x1 c) (x2 c) (x3 c) (x4 c) (x5 c) (x6 c) (x7 c) (x8 c)), r5.trans (Cert.ReferenceIdeal.Hand.G14_eq (x0 c) (x1 c) (x2 c) (x3 c) (x4 c) (x5 c) (x6 c) (x7 c) (x8 c)), r6.trans (Cert.ReferenceIdeal.Hand.G15_eq (x0 c) (x1 c) (x2 c) (x3 c) (x4 c) (x5 c) (x6 c) (x7 c) (x8 c)), k⟩)
    (Cert.ReferenceIdeal.Value.run m ρ)

/-- The two programs' results are equal. -/
theorem equal : algebraic_KernelIdeal_ReferenceIdeal (hKernelIdeal := Cert.KernelIdeal.Gen.facts) (hReferenceIdeal := Cert.ReferenceIdeal.Gen.facts) :=
  fun m g m' g' _ h => ⟨fun c => outH (midA (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)),
    fun c => outC3 (midA (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg1)),
    fun c => outS3 (midA (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg1)),
    fun c => outC4 (midA (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => outS4 (midA (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => outC2 (m ((c : Thread Cert.KernelIdeal.nD Cert.KernelIdeal.τ).loc Cert.KernelIdeal.main_arg6)),
    fun c => outS2 (m ((c : Thread Cert.KernelIdeal.nD Cert.KernelIdeal.τ).loc Cert.KernelIdeal.main_arg6)),
    Cert.KernelIdeal.Hand.value m g,
    reference_value m' g' (fun c => (m ((c : Thread Cert.KernelIdeal.nD Cert.KernelIdeal.τ).loc Cert.KernelIdeal.main_arg0))) (fun c => (m ((c : Thread Cert.KernelIdeal.nD Cert.KernelIdeal.τ).loc Cert.KernelIdeal.main_arg1))) (fun c => (m ((c : Thread Cert.KernelIdeal.nD Cert.KernelIdeal.τ).loc Cert.KernelIdeal.main_arg2))) (fun c => (m ((c : Thread Cert.KernelIdeal.nD Cert.KernelIdeal.τ).loc Cert.KernelIdeal.main_arg3))) (fun c => (m ((c : Thread Cert.KernelIdeal.nD Cert.KernelIdeal.τ).loc Cert.KernelIdeal.main_arg4))) (fun c => (m ((c : Thread Cert.KernelIdeal.nD Cert.KernelIdeal.τ).loc Cert.KernelIdeal.main_arg5))) (fun c => (m ((c : Thread Cert.KernelIdeal.nD Cert.KernelIdeal.τ).loc Cert.KernelIdeal.main_arg6))) (fun c => (m ((c : Thread Cert.KernelIdeal.nD Cert.KernelIdeal.τ).loc Cert.KernelIdeal.main_arg7))) (fun c => (m ((c : Thread Cert.KernelIdeal.nD Cert.KernelIdeal.τ).loc Cert.KernelIdeal.main_arg8))) h⟩

end Cert.Proof
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelLaunch
public import proofs.«01_k».proof.Proof.KernelIdealLaunch
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ (Cert.KernelIdeal.Hand.G m) (Cert.KernelIdeal.Hand.results m),
  fun m ρ _ => Cert.ReferenceIdeal.Gen.frame m ρ, trivial, equal⟩

end Cert.Proof

end
